-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "pad" .f32 0x7149F2CA#32 ⊤
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8320x15360 : Shape := ⟨2, ![8320, 15360]⟩
abbrev S8x8320 : Shape := ⟨2, ![8, 8320]⟩
abbrev S8208x1024 : Shape := ⟨2, ![8208, 1024]⟩
abbrev S_ : Shape := ⟨0, ![]⟩

class Facts : Prop where
  bitsLt_bf16_f32 : FTy.bits .bf16 < FTy.bits .f32
  bcast_S_S8320x15360 : S_.BroadcastsInDim S8320x15360 (![] : Fin 0 → Fin S8320x15360.rank)
  reducesTo_S8320x15360_S_d0_1 : S8320x15360.ReducesTo [0, 1] S_
  h_S_ : 0 < S_.numel
  bcast_S_S8x8320 : S_.BroadcastsInDim S8x8320 (![] : Fin 0 → Fin S8x8320.rank)
  reducesTo_S8x8320_S_d0_1 : S8x8320.ReducesTo [0, 1] S_
  bcast_S_S8208x1024 : S_.BroadcastsInDim S8208x1024 (![] : Fin 0 → Fin S8208x1024.rank)
  reducesTo_S8208x1024_S_d0_1 : S8208x1024.ReducesTo [0, 1] S_

variable [Facts]

def fn {F : FTy → Type} [FloatOps F] (main_arg0 : FVec F S8320x15360 .bf16) (main_arg1 : FVec F S8x8320 .f32) (main_arg2 : FVec F S8208x1024 .bf16) : IVec S_ 1 :=
  let main_v0 : FVec F S8320x15360 .f32 := (extf .f32 · bitsLt_bf16_f32) main_arg0
  let main_v1 : FVec F S8320x15360 .f32 := Host.absf main_v0
  let main_cst : FVec F S_ .f32 := constant S_ .f32 0x7F800000#32
  let main_v2 : FVec F S8320x15360 .f32 := broadcastInDim S8320x15360 ![] bcast_S_S8320x15360 main_cst
  let main_v3 : IVec S8320x15360 1 := cmpf .olt main_v1 main_v2
  let main_c : IVec S_ 1 := constantI S_ 1 1#1
  let main_v4 : IVec S_ 1 := (fun x v => Host.reduce IntOp.andi x v reducesTo_S8320x15360_S_d0_1 h_S_) main_v3 main_c
  let main_v5 : FVec F S8x8320 .f32 := Host.absf main_arg1
  let main_cst_0 : FVec F S_ .f32 := constant S_ .f32 0x7F800000#32
  let main_v6 : FVec F S8x8320 .f32 := broadcastInDim S8x8320 ![] bcast_S_S8x8320 main_cst_0
  let main_v7 : IVec S8x8320 1 := cmpf .olt main_v5 main_v6
  let main_c_1 : IVec S_ 1 := constantI S_ 1 1#1
  let main_v8 : IVec S_ 1 := (fun x v => Host.reduce IntOp.andi x v reducesTo_S8x8320_S_d0_1 h_S_) main_v7 main_c_1
  let main_v9 : IVec S_ 1 := andi main_v4 main_v8
  let main_v10 : FVec F S8208x1024 .f32 := (extf .f32 · bitsLt_bf16_f32) main_arg2
  let main_v11 : FVec F S8208x1024 .f32 := Host.absf main_v10
  let main_cst_2 : FVec F S_ .f32 := constant S_ .f32 0x7F800000#32
  let main_v12 : FVec F S8208x1024 .f32 := broadcastInDim S8208x1024 ![] bcast_S_S8208x1024 main_cst_2
  let main_v13 : IVec S8208x1024 1 := cmpf .olt main_v11 main_v12
  let main_c_3 : IVec S_ 1 := constantI S_ 1 1#1
  let main_v14 : IVec S_ 1 := (fun x v => Host.reduce IntOp.andi x v reducesTo_S8208x1024_S_d0_1 h_S_) main_v13 main_c_3
  let main_v15 : IVec S_ 1 := andi main_v9 main_v14
  main_v15
-- ==== Kernel.lean ====
abbrev S8320x15360 : Shape := ⟨2, ![8320, 15360]⟩
abbrev S8x8320 : Shape := ⟨2, ![8, 8320]⟩
abbrev S8208x1024 : Shape := ⟨2, ![8208, 1024]⟩
abbrev S8x8208 : Shape := ⟨2, ![8, 8208]⟩
abbrev S8208x8x128 : Shape := ⟨3, ![8208, 8, 128]⟩
abbrev S8x8208x128 : Shape := ⟨3, ![8, 8208, 128]⟩
abbrev S8x8208x8208 : Shape := ⟨3, ![8, 8208, 8208]⟩
abbrev S_ : Shape := ⟨0, ![]⟩
abbrev S8x8208x1 : Shape := ⟨3, ![8, 8208, 1]⟩
abbrev S8x1x8208 : Shape := ⟨3, ![8, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x13x640 : Shape := ⟨3, ![8, 13, 640]⟩
abbrev S8x13x1 : Shape := ⟨3, ![8, 13, 1]⟩
abbrev S8320x1024 : Shape := ⟨2, ![8320, 1024]⟩
abbrev S8x8320x1 : Shape := ⟨3, ![8, 8320, 1]⟩
abbrev S8x1x8320 : Shape := ⟨3, ![8, 1, 8320]⟩
abbrev S640x128 : Shape := ⟨2, ![640, 128]⟩
abbrev S1x640x1 : Shape := ⟨3, ![1, 640, 1]⟩
abbrev S1x1x640 : Shape := ⟨3, ![1, 1, 640]⟩
abbrev S8320x128 : Shape := ⟨2, ![8320, 128]⟩
abbrev S1x640 : Shape := ⟨2, ![1, 640]⟩
abbrev S1x1x1 : Shape := ⟨3, ![1, 1, 1]⟩
abbrev S1x1 : Shape := ⟨2, ![1, 1]⟩
abbrev S640x640 : Shape := ⟨2, ![640, 640]⟩
abbrev S640x1 : Shape := ⟨2, ![640, 1]⟩
abbrev S640 : Shape := ⟨1, ![640]⟩

abbrev nBuf : Space → Nat
  | .hbm => 81
  | .vmem => 28
  | .smem => 0
  | _ => 0

abbrev bufTy : (tb : Table) → Fin (tcTables nBuf tb) → BufTy
  | .hbm, ⟨0, _⟩ => ⟨S8320x15360, .bf16⟩
  | .hbm, ⟨1, _⟩ => ⟨S8x8320, .f32⟩
  | .hbm, ⟨2, _⟩ => ⟨S8208x1024, .bf16⟩
  | .hbm, ⟨3, _⟩ => ⟨S8x8208, .f32⟩
  | .hbm, ⟨4, _⟩ => ⟨S8208x1024, .bf16⟩
  | .hbm, ⟨5, _⟩ => ⟨S8208x1024, .f32⟩
  | .hbm, ⟨6, _⟩ => ⟨S8208x8x128, .f32⟩
  | .hbm, ⟨7, _⟩ => ⟨S8x8208x128, .f32⟩
  | .hbm, ⟨8, _⟩ => ⟨S8208x1024, .bf16⟩
  | .hbm, ⟨9, _⟩ => ⟨S8208x1024, .f32⟩
  | .hbm, ⟨10, _⟩ => ⟨S8208x8x128, .f32⟩
  | .hbm, ⟨11, _⟩ => ⟨S8x8208x128, .f32⟩
  | .hbm, ⟨12, _⟩ => ⟨S8x8208x8208, .f32⟩
  | .hbm, ⟨13, _⟩ => ⟨S_, .f32⟩
  | .hbm, ⟨14, _⟩ => ⟨S8x8208x8208, .f32⟩
  | .hbm, ⟨15, _⟩ => ⟨S8x8208x8208, .f32⟩
  | .hbm, ⟨16, _⟩ => ⟨S8x8208x1, .f32⟩
  | .hbm, ⟨17, _⟩ => ⟨S8x8208x8208, .f32⟩
  | .hbm, ⟨18, _⟩ => ⟨S8x8208x8208, .f32⟩
  | .hbm, ⟨19, _⟩ => ⟨S8x1x8208, .f32⟩
  | .hbm, ⟨20, _⟩ => ⟨S8x8208x8208, .f32⟩
  | .hbm, ⟨21, _⟩ => ⟨S8x8208x8208, .f32⟩
  | .hbm, ⟨22, _⟩ => ⟨S8208, .i32⟩
  | .hbm, ⟨23, _⟩ => ⟨S1x8208, .i32⟩
  | .hbm, ⟨24, _⟩ => ⟨S8208x1, .i32⟩
  | .hbm, ⟨25, _⟩ => ⟨S8208x8208, .i32⟩
  | .hbm, ⟨26, _⟩ => ⟨S8208x8208, .i32⟩
  | .hbm, ⟨27, _⟩ => ⟨S8208x8208, .i1⟩
  | .hbm, ⟨28, _⟩ => ⟨S_, .f32⟩
  | .hbm, ⟨29, _⟩ => ⟨S_, .f32⟩
  | .hbm, ⟨30, _⟩ => ⟨S8x8208x8208, .i1⟩
  | .hbm, ⟨31, _⟩ => ⟨S8x8208x8208, .f32⟩
  | .hbm, ⟨32, _⟩ => ⟨S8x8208x8208, .f32⟩
  | .hbm, ⟨33, _⟩ => ⟨S_, .f32⟩
  | .hbm, ⟨34, _⟩ => ⟨S8x8208, .f32⟩
  | .hbm, ⟨35, _⟩ => ⟨S8x8208x1, .f32⟩
  | .hbm, ⟨36, _⟩ => ⟨S8x8208x8208, .f32⟩
  | .hbm, ⟨37, _⟩ => ⟨S8x8208x8208, .f32⟩
  | .hbm, ⟨38, _⟩ => ⟨S8x8208x8208, .f32⟩
  | .hbm, ⟨39, _⟩ => ⟨S_, .f32⟩
  | .hbm, ⟨40, _⟩ => ⟨S8x8208, .f32⟩
  | .hbm, ⟨41, _⟩ => ⟨S8x8208x1, .f32⟩
  | .hbm, ⟨42, _⟩ => ⟨S8x8208x8208, .f32⟩
  | .hbm, ⟨43, _⟩ => ⟨S8x8208x8208, .f32⟩
  | .hbm, ⟨44, _⟩ => ⟨S8208x1024, .bf16⟩
  | .hbm, ⟨45, _⟩ => ⟨S8208x1024, .f32⟩
  | .hbm, ⟨46, _⟩ => ⟨S8208x8x128, .f32⟩
  | .hbm, ⟨47, _⟩ => ⟨S8x8208x128, .f32⟩
  | .hbm, ⟨48, _⟩ => ⟨S8x8208x128, .f32⟩
  | .hbm, ⟨49, _⟩ => ⟨S8208x1024, .f32⟩
  | .hbm, ⟨50, _⟩ => ⟨S8208x8x128, .f32⟩
  | .hbm, ⟨51, _⟩ => ⟨S8x8208x128, .f32⟩
  | .hbm, ⟨52, _⟩ => ⟨S8x8208x128, .f32⟩
  | .hbm, ⟨53, _⟩ => ⟨S_, .f32⟩
  | .hbm, ⟨54, _⟩ => ⟨S8x8208, .f32⟩
  | .hbm, ⟨55, _⟩ => ⟨S8x13x640, .f32⟩
  | .hbm, ⟨56, _⟩ => ⟨S8x13x1, .f32⟩
  | .hbm, ⟨57, _⟩ => ⟨S8x13x640, .f32⟩
  | .hbm, ⟨58, _⟩ => ⟨S8x8320, .f32⟩
  | .hbm, ⟨59, _⟩ => ⟨S8x8208, .f32⟩
  | .hbm, ⟨60, _⟩ => ⟨S8x8208, .f32⟩
  | .hbm, ⟨61, _⟩ => ⟨S8x8208, .f32⟩
  | .hbm, ⟨62, _⟩ => ⟨S8x8208, .f32⟩
  | .hbm, ⟨63, _⟩ => ⟨S8x8208, .f32⟩
  | .hbm, ⟨64, _⟩ => ⟨S_, .i32⟩
  | .hbm, ⟨65, _⟩ => ⟨S_, .bf16⟩
  | .hbm, ⟨66, _⟩ => ⟨S8320x1024, .bf16⟩
  | .hbm, ⟨67, _⟩ => ⟨S8x8320x1, .f32⟩
  | .hbm, ⟨68, _⟩ => ⟨S8x1x8320, .f32⟩
  | .hbm, ⟨69, _⟩ => ⟨S_, .i32⟩
  | .hbm, ⟨70, _⟩ => ⟨S_, .f32⟩
  | .hbm, ⟨71, _⟩ => ⟨S8x8320, .f32⟩
  | .hbm, ⟨72, _⟩ => ⟨S8x8320x1, .f32⟩
  | .hbm, ⟨73, _⟩ => ⟨S_, .i32⟩
  | .hbm, ⟨74, _⟩ => ⟨S_, .f32⟩
  | .hbm, ⟨75, _⟩ => ⟨S8x8320, .f32⟩
  | .hbm, ⟨76, _⟩ => ⟨S8x8320x1, .f32⟩
  | .hbm, ⟨77, _⟩ => ⟨S8320x1024, .bf16⟩
  | .hbm, ⟨78, _⟩ => ⟨S8320x1024, .bf16⟩
  | .hbm, ⟨79, _⟩ => ⟨S8320x1024, .bf16⟩
  | .hbm, ⟨80, _⟩ => ⟨S8x1x8320, .f32⟩
  | .local _ .vmem, ⟨0, _⟩ => ⟨S640x128, .bf16⟩
  | .local _ .vmem, ⟨1, _⟩ => ⟨S640x128, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S1x640x1, .f32⟩
  | .local _ .vmem, ⟨7, _⟩ => ⟨S1x640x1, .f32⟩
  | .local _ .vmem, ⟨8, _⟩ => ⟨S1x1x640, .f32⟩
  | .local _ .vmem, ⟨9, _⟩ => ⟨S1x1x640, .f32⟩
  | .local _ .vmem, ⟨10, _⟩ => ⟨S1x640x1, .f32⟩
  | .local _ .vmem, ⟨11, _⟩ => ⟨S1x640x1, .f32⟩
  | .local _ .vmem, ⟨12, _⟩ => ⟨S1x640x1, .f32⟩
  | .local _ .vmem, ⟨13, _⟩ => ⟨S1x640x1, .f32⟩
  | .local _ .vmem, ⟨14, _⟩ => ⟨S640x128, .bf16⟩
  | .local _ .vmem, ⟨15, _⟩ => ⟨S640x128, .bf16⟩
  | .local _ .vmem, ⟨16, _⟩ => ⟨S8320x128, .bf16⟩
  | .local _ .vmem, ⟨17, _⟩ => ⟨S8320x128, .bf16⟩
  | .local _ .vmem, ⟨18, _⟩ => ⟨S640x128, .bf16⟩
  | .local _ .vmem, ⟨19, _⟩ => ⟨S640x128, .bf16⟩
  | .local _ .vmem, ⟨20, _⟩ => ⟨S640x128, .bf16⟩
  | .local _ .vmem, ⟨21, _⟩ => ⟨S640x128, .bf16⟩
  | .local _ .vmem, ⟨22, _⟩ => ⟨S1x1x640, .f32⟩
  | .local _ .vmem, ⟨23, _⟩ => ⟨S1x1x640, .f32⟩
  | .local _ .vmem, ⟨24, _⟩ => ⟨S8320x128, .f32⟩
  | .local _ .vmem, ⟨25, _⟩ => ⟨S640x128, .f32⟩
  | .local _ .vmem, ⟨26, _⟩ => ⟨S640x128, .f32⟩
  | .local _ .vmem, ⟨27, _⟩ => ⟨S1x640, .f32⟩
  | _, _ => ⟨S8320x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_call1_v0 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_4 : Ref sig .tc := ⟨.hbm, 69, rfl⟩
abbrev main_call2_v0 : Ref sig .tc := ⟨.hbm, 70, rfl⟩
abbrev main_v56 : Ref sig .tc := ⟨.hbm, 71, rfl⟩
abbrev main_v57 : Ref sig .tc := ⟨.hbm, 72, rfl⟩
abbrev main_c_5 : Ref sig .tc := ⟨.hbm, 73, rfl⟩
abbrev main_call3_v0 : Ref sig .tc := ⟨.hbm, 74, rfl⟩
abbrev main_v58 : Ref sig .tc := ⟨.hbm, 75, rfl⟩
abbrev main_v59 : Ref sig .tc := ⟨.hbm, 76, rfl⟩
abbrev main_v60_0 : Ref sig .tc := ⟨.hbm, 77, rfl⟩
abbrev main_v60_1 : Ref sig .tc := ⟨.hbm, 78, rfl⟩
abbrev main_v60_2 : Ref sig .tc := ⟨.hbm, 79, rfl⟩
abbrev main_v60_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 13, 13], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c640_i32_51 : BitVec 32 := 640#32
  let v81 : BitVec 32 := Scalar.muli arg2 c640_i32_51
  v81
def k0_off1 (i : grid0.Coords) : Fin 2 → Nat :=
  let arg2 : BitVec 32 := BitVec.ofNat 32 (i 2).val
  let c640_i32_51 : BitVec 32 := 640#32
  let v81 : BitVec 32 := Scalar.muli arg2 c640_i32_51
  let v82 : BitVec 32 := v81
  let v83 : Index := Scalar.indexCast v82
  let c0_52 : Index := 0#32
  ![v83.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c640_i32_52 : BitVec 32 := 640#32
  let v86 : BitVec 32 := Scalar.muli arg2 c640_i32_52
  v86
def k0_off2 (i : grid0.Coords) : Fin 2 → Nat :=
  let arg2 : BitVec 32 := BitVec.ofNat 32 (i 2).val
  let c640_i32_52 : BitVec 32 := 640#32
  let v86 : BitVec 32 := Scalar.muli arg2 c640_i32_52
  let v87 : BitVec 32 := v86
  let v88 : Index := Scalar.indexCast v87
  let c0_53 : Index := 0#32
  ![v88.toNat, 0]
def k0_cond6 (i : grid0.Coords) : BitVec 1 :=
  let arg1 : BitVec 32 := BitVec.ofNat 32 (i 1).val
  let c12_i32_7 : BitVec 32 := 12#32
  let v17 : BitVec 1 := Scalar.cmpi .eq arg1 c12_i32_7
  let arg2 : BitVec 32 := BitVec.ofNat 32 (i 2).val
  let c12_i32_8 : BitVec 32 := 12#32
  let v18 : BitVec 1 := Scalar.cmpi .eq arg2 c12_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c12_i32 : BitVec 32 := 12#32
  let v14 : BitVec 1 := Scalar.cmpi .eq arg2 c12_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x640x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x640x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S640x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8320x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S640x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "mask" => some ⊥
  | "pad" => some ⊤
  | _ => none
-- ==== ReferenceIdeal.lean ====
abbrev S8320x15360 : Shape := ⟨2, ![8320, 15360]⟩
abbrev S8x8320 : Shape := ⟨2, ![8, 8320]⟩
abbrev S8208x1024 : Shape := ⟨2, ![8208, 1024]⟩
abbrev S8x8208 : Shape := ⟨2, ![8, 8208]⟩
abbrev S8208x8x128 : Shape := ⟨3, ![8208, 8, 128]⟩
abbrev S8x8208x128 : Shape := ⟨3, ![8, 8208, 128]⟩
abbrev S8x8208x8208 : Shape := ⟨3, ![8, 8208, 8208]⟩
abbrev S_ : Shape := ⟨0, ![]⟩
abbrev S8x8208x1 : Shape := ⟨3, ![8, 8208, 1]⟩
abbrev S8x1x8208 : Shape := ⟨3, ![8, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x128x8208 : Shape := ⟨3, ![8, 128, 8208]⟩
abbrev S8320x1024 : Shape := ⟨2, ![8320, 1024]⟩
abbrev S8x1x8320 : Shape := ⟨3, ![8, 1, 8320]⟩

abbrev nBuf : Space → Nat
  | .hbm => 142
  | .vmem => 0
  | .smem => 0
  | _ => 0

abbrev hbmTy0_0 (i : Nat) : BufTy := match i % 128 with
  | 0 => ⟨S8320x15360, .bf16⟩
  | 1 => ⟨S8x8320, .f32⟩
  | 2 => ⟨S8208x1024, .bf16⟩
  | 3 => ⟨S8208x1024, .bf16⟩
  | 4 => ⟨S8208x1024, .f32⟩
  | 5 => ⟨S8208x1024, .bf16⟩
  | 6 => ⟨S8208x1024, .f32⟩
  | 7 => ⟨S8208x1024, .bf16⟩
  | 8 => ⟨S8208x1024, .f32⟩
  | 9 => ⟨S8x8208, .f32⟩
  | 10 => ⟨S8208x8x128, .f32⟩
  | 11 => ⟨S8x8208x128, .f32⟩
  | 12 => ⟨S8208x8x128, .f32⟩
  | 13 => ⟨S8x8208x128, .f32⟩
  | 14 => ⟨S8208x8x128, .f32⟩
  | 15 => ⟨S8x8208x128, .f32⟩
  | 16 => ⟨S8x8208x8208, .f32⟩
  | 17 => ⟨S_, .f32⟩
  | 18 => ⟨S8x8208x8208, .f32⟩
  | 19 => ⟨S8x8208x8208, .f32⟩
  | 20 => ⟨S8x8208x1, .f32⟩
  | 21 => ⟨S8x8208x8208, .f32⟩
  | 22 => ⟨S8x8208x8208, .f32⟩
  | 23 => ⟨S8x1x8208, .f32⟩
  | 24 => ⟨S8x8208x8208, .f32⟩
  | 25 => ⟨S8x8208x8208, .f32⟩
  | 26 => ⟨S8208, .i32⟩
  | 27 => ⟨S1x8208, .i32⟩
  | 28 => ⟨S8208x1, .i32⟩
  | 29 => ⟨S8208x8208, .i32⟩
  | 30 => ⟨S8208x8208, .i32⟩
  | 31 => ⟨S8208x8208, .i1⟩
  | 32 => ⟨S_, .f32⟩
  | 33 => ⟨S_, .f32⟩
  | 34 => ⟨S8x8208x8208, .i1⟩
  | 35 => ⟨S8x8208x8208, .f32⟩
  | 36 => ⟨S8x8208x8208, .f32⟩
  | 37 => ⟨S_, .f32⟩
  | 38 => ⟨S8x8208x8208, .f32⟩
  | 39 => ⟨S_, .f32⟩
  | 40 => ⟨S8x8208, .f32⟩
  | 41 => ⟨S8x8208x1, .f32⟩
  | 42 => ⟨S8x8208x8208, .f32⟩
  | 43 => ⟨S8x8208x8208, .i1⟩
  | 44 => ⟨S8x8208x8208, .f32⟩
  | 45 => ⟨S_, .f32⟩
  | 46 => ⟨S8x8208, .f32⟩
  | 47 => ⟨S_, .f32⟩
  | 48 => ⟨S8x8208, .f32⟩
  | 49 => ⟨S8x8208, .f32⟩
  | 50 => ⟨S_, .f32⟩
  | 51 => ⟨S8x8208, .f32⟩
  | 52 => ⟨S8x8208, .i1⟩
  | 53 => ⟨S_, .f32⟩
  | 54 => ⟨S8x8208, .f32⟩
  | 55 => ⟨S8x8208, .i1⟩
  | 56 => ⟨S_, .f32⟩
  | 57 => ⟨S8x8208, .f32⟩
  | 58 => ⟨S_, .f32⟩
  | 59 => ⟨S8x8208, .f32⟩
  | 60 => ⟨S_, .f32⟩
  | 61 => ⟨S8x8208, .f32⟩
  | 62 => ⟨S8x8208, .f32⟩
  | 63 => ⟨S8x8208, .f32⟩
  | 64 => ⟨S8x8208x1, .f32⟩
  | 65 => ⟨S8x8208x8208, .f32⟩
  | 66 => ⟨S8x8208x8208, .f32⟩
  | 67 => ⟨S8x8208x8208, .f32⟩
  | 68 => ⟨S_, .f32⟩
  | 69 => ⟨S8x8208, .f32⟩
  | 70 => ⟨S8x8208x1, .f32⟩
  | 71 => ⟨S8x8208x8208, .f32⟩
  | 72 => ⟨S8x8208x8208, .f32⟩
  | 73 => ⟨S8x8208x1, .f32⟩
  | 74 => ⟨S_, .f32⟩
  | 75 => ⟨S8x8208x1, .f32⟩
  | 76 => ⟨S8x8208x1, .f32⟩
  | 77 => ⟨S8x8208x128, .f32⟩
  | 78 => ⟨S8208x8x128, .f32⟩
  | 79 => ⟨S8208x1024, .f32⟩
  | 80 => ⟨S8208x1024, .f32⟩
  | 81 => ⟨S8208x8x128, .f32⟩
  | 82 => ⟨S8x8208x128, .f32⟩
  | 83 => ⟨S8x128x8208, .f32⟩
  | 84 => ⟨S8x8208x128, .f32⟩
  | 85 => ⟨S8x8208x8208, .f32⟩
  | 86 => ⟨S8x8208x8208, .f32⟩
  | 87 => ⟨S8x8208x8208, .f32⟩
  | 88 => ⟨S8x8208x8208, .f32⟩
  | 89 => ⟨S_, .f32⟩
  | 90 => ⟨S8x8208, .f32⟩
  | 91 => ⟨S8x8208x1, .f32⟩
  | 92 => ⟨S8x8208x1, .f32⟩
  | 93 => ⟨S8x8208x8208, .f32⟩
  | 94 => ⟨S8x8208x8208, .f32⟩
  | 95 => ⟨S_, .f32⟩
  | 96 => ⟨S8x8208, .f32⟩
  | 97 => ⟨S8x8208x8208, .f32⟩
  | 98 => ⟨S8x8208x8208, .f32⟩
  | 99 => ⟨S8x8208x8208, .f32⟩
  | 100 => ⟨S_, .f32⟩
  | 101 => ⟨S8x8208x8208, .f32⟩
  | 102 => ⟨S8x8208x8208, .f32⟩
  | 103 => ⟨S8x8208x8208, .f32⟩
  | 104 => ⟨S_, .f32⟩
  | 105 => ⟨S8x8208, .f32⟩
  | 106 => ⟨S8x1x8208, .f32⟩
  | 107 => ⟨S_, .f32⟩
  | 108 => ⟨S8x8208, .f32⟩
  | 109 => ⟨S_, .f32⟩
  | 110 => ⟨S8x8208, .f32⟩
  | 111 => ⟨S8x8208x1, .f32⟩
  | 112 => ⟨S_, .f32⟩
  | 113 => ⟨S8x8208, .f32⟩
  | 114 => ⟨S8x8208, .f32⟩
  | 115 => ⟨S_, .f32⟩
  | 116 => ⟨S8x8208x8208, .f32⟩
  | 117 => ⟨S8x8208x8208, .f32⟩
  | 118 => ⟨S8x8208x128, .f32⟩
  | 119 => ⟨S8x8208x128, .f32⟩
  | 120 => ⟨S8208x8x128, .f32⟩
  | 121 => ⟨S8208x1024, .f32⟩
  | 122 => ⟨S8208x8x128, .f32⟩
  | 123 => ⟨S8208x1024, .f32⟩
  | 124 => ⟨S8208x8x128, .f32⟩
  | 125 => ⟨S8208x1024, .f32⟩
  | 126 => ⟨S8208x1024, .bf16⟩
  | 127 => ⟨S_, .i32⟩
  | _ => ⟨S8320x15360, .bf16⟩

abbrev hbmTy0_1 (i : Nat) : BufTy := match i % 128 with
  | 0 => ⟨S_, .bf16⟩
  | 1 => ⟨S8320x1024, .bf16⟩
  | 2 => ⟨S8208x1024, .bf16⟩
  | 3 => ⟨S_, .i32⟩
  | 4 => ⟨S_, .bf16⟩
  | 5 => ⟨S8320x1024, .bf16⟩
  | 6 => ⟨S8208x1024, .bf16⟩
  | 7 => ⟨S_, .i32⟩
  | 8 => ⟨S_, .bf16⟩
  | 9 => ⟨S8320x1024, .bf16⟩
  | 10 => ⟨S_, .i32⟩
  | 11 => ⟨S_, .f32⟩
  | 12 => ⟨S8x8320, .f32⟩
  | 13 => ⟨S8x1x8320, .f32⟩
  | _ => ⟨S8320x15360, .bf16⟩

abbrev hbmTy (i : Nat) : BufTy := match i / 128 with
  | 0 => hbmTy0_0 i
  | 1 => hbmTy0_1 i
  | _ => ⟨S8320x15360, .bf16⟩

abbrev bufTy : (tb : Table) → Fin (tcTables nBuf tb) → BufTy
  | .hbm, ⟨i, _⟩ => hbmTy i
  | _, _ => ⟨S8320x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c : Ref sig .tc := ⟨.hbm, 127, rfl⟩
abbrev main_call2_v0 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_call3_v0 : Ref sig .tc := ⟨.hbm, 132, rfl⟩
abbrev main_v100 : Ref sig .tc := ⟨.hbm, 133, rfl⟩
abbrev main_v101 : Ref sig .tc := ⟨.hbm, 134, rfl⟩
abbrev main_c_19 : Ref sig .tc := ⟨.hbm, 135, rfl⟩
abbrev main_call4_v0 : Ref sig .tc := ⟨.hbm, 136, rfl⟩
abbrev main_v102 : Ref sig .tc := ⟨.hbm, 137, rfl⟩
abbrev main_c_20 : Ref sig .tc := ⟨.hbm, 138, rfl⟩
abbrev main_call5_v0 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]
-- ==== Kernel2.lean ====
abbrev S8320x15360 : Shape := ⟨2, ![8320, 15360]⟩
abbrev S2048x15360 : Shape := ⟨2, ![2048, 15360]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x15360, .bf16⟩
  | .hbm, ⟨1, _⟩ => ⟨S2048x15360, .bf16⟩
  | .hbm, ⟨2, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 15], ![false, false, false]⟩

def k0_cond2 (i : grid0.Coords) : BitVec 1 :=
  let arg2 : BitVec 32 := BitVec.ofNat 32 (i 2).val
  let c14_i32 : BitVec 32 := 14#32
  let v11 : BitVec 1 := Scalar.cmpi .eq arg2 c14_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x15360 : Shape := ⟨2, ![8320, 15360]⟩
abbrev S2048x15360 : Shape := ⟨2, ![2048, 15360]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x15360, .bf16⟩
  | .hbm, ⟨1, _⟩ => ⟨S2048x15360, .bf16⟩
  | .hbm, ⟨2, _⟩ => ⟨S_, .f32⟩
  | .hbm, ⟨3, _⟩ => ⟨S8320x2048, .f32⟩
  | .hbm, ⟨4, _⟩ => ⟨S2048x15360, .f32⟩
  | .hbm, ⟨5, _⟩ => ⟨S8320x15360, .f32⟩
  | .hbm, ⟨6, _⟩ => ⟨S8320x15360, .f32⟩
  | .hbm, ⟨7, _⟩ => ⟨S8320x2048, .f32⟩
  | _, _ => ⟨S8320x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x8320 : Shape := ⟨2, ![2048, 8320]⟩
abbrev S8320x15360 : Shape := ⟨2, ![8320, 15360]⟩
abbrev S2x2048x15360 : Shape := ⟨3, ![2, 2048, 15360]⟩
abbrev S2048x1664 : Shape := ⟨2, ![2048, 1664]⟩
abbrev S1664x512 : Shape := ⟨2, ![1664, 512]⟩
abbrev S1x2048x512 : Shape := ⟨3, ![1, 2048, 512]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x8320, .bf16⟩
  | .hbm, ⟨1, _⟩ => ⟨S8320x15360, .bf16⟩
  | .hbm, ⟨2, _⟩ => ⟨S2x2048x15360, .f32⟩
  | .hbm, ⟨3, _⟩ => ⟨S2x2048x15360, .bf16⟩
  | .hbm, ⟨4, _⟩ => ⟨S2x2048x15360, .f32⟩
  | .hbm, ⟨5, _⟩ => ⟨S2x2048x15360, .bf16⟩
  | .local _ .vmem, ⟨0, _⟩ => ⟨S2048x1664, .bf16⟩
  | .local _ .vmem, ⟨1, _⟩ => ⟨S2048x1664, .bf16⟩
  | .local _ .vmem, ⟨2, _⟩ => ⟨S1664x512, .bf16⟩
  | .local _ .vmem, ⟨3, _⟩ => ⟨S1664x512, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .bf16⟩
  | .local _ .vmem, ⟨7, _⟩ => ⟨S1x2048x512, .bf16⟩
  | .local _ .vmem, ⟨8, _⟩ => ⟨S2048x512, .f32⟩
  | _, _ => ⟨S2048x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 30, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x8320 : Shape := ⟨2, ![2048, 8320]⟩
abbrev S8320x15360 : Shape := ⟨2, ![8320, 15360]⟩
abbrev S2x2048x15360 : Shape := ⟨3, ![2, 2048, 15360]⟩
abbrev S_ : Shape := ⟨0, ![]⟩
abbrev S2048x15360 : Shape := ⟨2, ![2048, 15360]⟩
abbrev S8320x2048 : Shape := ⟨2, ![8320, 2048]⟩
abbrev S15360x2048 : Shape := ⟨2, ![15360, 2048]⟩
abbrev S1x2048x15360 : Shape := ⟨3, ![1, 2048, 15360]⟩

abbrev nBuf : Space → Nat
  | .hbm => 23
  | .vmem => 0
  | .smem => 0
  | _ => 0

abbrev bufTy : (tb : Table) → Fin (tcTables nBuf tb) → BufTy
  | .hbm, ⟨0, _⟩ => ⟨S2048x8320, .bf16⟩
  | .hbm, ⟨1, _⟩ => ⟨S8320x15360, .bf16⟩
  | .hbm, ⟨2, _⟩ => ⟨S2x2048x15360, .f32⟩
  | .hbm, ⟨3, _⟩ => ⟨S2x2048x15360, .bf16⟩
  | .hbm, ⟨4, _⟩ => ⟨S_, .f32⟩
  | .hbm, ⟨5, _⟩ => ⟨S2048x15360, .f32⟩
  | .hbm, ⟨6, _⟩ => ⟨S8320x2048, .bf16⟩
  | .hbm, ⟨7, _⟩ => ⟨S8320x2048, .f32⟩
  | .hbm, ⟨8, _⟩ => ⟨S8320x15360, .f32⟩
  | .hbm, ⟨9, _⟩ => ⟨S8320x15360, .f32⟩
  | .hbm, ⟨10, _⟩ => ⟨S15360x2048, .f32⟩
  | .hbm, ⟨11, _⟩ => ⟨S2048x15360, .f32⟩
  | .hbm, ⟨12, _⟩ => ⟨S1x2048x15360, .f32⟩
  | .hbm, ⟨13, _⟩ => ⟨S2048x15360, .f32⟩
  | .hbm, ⟨14, _⟩ => ⟨S1x2048x15360, .f32⟩
  | .hbm, ⟨15, _⟩ => ⟨S1x2048x15360, .f32⟩
  | .hbm, ⟨16, _⟩ => ⟨S2x2048x15360, .f32⟩
  | .hbm, ⟨17, _⟩ => ⟨S2048x15360, .bf16⟩
  | .hbm, ⟨18, _⟩ => ⟨S1x2048x15360, .bf16⟩
  | .hbm, ⟨19, _⟩ => ⟨S2048x15360, .bf16⟩
  | .hbm, ⟨20, _⟩ => ⟨S1x2048x15360, .bf16⟩
  | .hbm, ⟨21, _⟩ => ⟨S1x2048x15360, .bf16⟩
  | .hbm, ⟨22, _⟩ => ⟨S2x2048x15360, .bf16⟩
  | _, _ => ⟨S2048x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S8320x2048 : Shape := ⟨2, ![8320, 2048]⟩
abbrev S2048x15360 : Shape := ⟨2, ![2048, 15360]⟩
abbrev S8320x15360 : Shape := ⟨2, ![8320, 15360]⟩
abbrev S1664x2048 : Shape := ⟨2, ![1664, 2048]⟩
abbrev S2048x512 : Shape := ⟨2, ![2048, 512]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x15360, .bf16⟩
  | .hbm, ⟨2, _⟩ => ⟨S8320x15360, .bf16⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 30, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x2048 : Shape := ⟨2, ![8320, 2048]⟩
abbrev S2048x15360 : Shape := ⟨2, ![2048, 15360]⟩
abbrev S8320x15360 : Shape := ⟨2, ![8320, 15360]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x15360, .bf16⟩
  | .hbm, ⟨2, _⟩ => ⟨S8320x2048, .f32⟩
  | .hbm, ⟨3, _⟩ => ⟨S2048x15360, .f32⟩
  | .hbm, ⟨4, _⟩ => ⟨S8320x15360, .f32⟩
  | .hbm, ⟨5, _⟩ => ⟨S8320x15360, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8320x2048 : Shape := ⟨2, ![8320, 2048]⟩
abbrev S2x2048x11264 : Shape := ⟨3, ![2, 2048, 11264]⟩
abbrev S8320x11264 : Shape := ⟨2, ![8320, 11264]⟩
abbrev S1664x2048 : Shape := ⟨2, ![1664, 2048]⟩
abbrev S1x2048x512 : Shape := ⟨3, ![1, 2048, 512]⟩
abbrev S1664x512 : Shape := ⟨2, ![1664, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2x2048x11264, .bf16⟩
  | .hbm, ⟨2, _⟩ => ⟨S8320x11264, .bf16⟩
  | .local _ .vmem, ⟨0, _⟩ => ⟨S1664x2048, .bf16⟩
  | .local _ .vmem, ⟨1, _⟩ => ⟨S1664x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 22, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x2048 : Shape := ⟨2, ![8320, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8320x11264 : Shape := ⟨2, ![8320, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x11264, .bf16⟩
  | .hbm, ⟨2, _⟩ => ⟨S8320x2048, .f32⟩
  | .hbm, ⟨3, _⟩ => ⟨S1x2048x11264, .bf16⟩
  | .hbm, ⟨4, _⟩ => ⟨S2048x11264, .bf16⟩
  | .hbm, ⟨5, _⟩ => ⟨S2048x11264, .f32⟩
  | .hbm, ⟨6, _⟩ => ⟨S8320x11264, .f32⟩
  | .hbm, ⟨7, _⟩ => ⟨S8320x11264, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8320x11264 : Shape := ⟨2, ![8320, 11264]⟩
abbrev S2x2048x11264 : Shape := ⟨3, ![2, 2048, 11264]⟩
abbrev S8320x2048 : Shape := ⟨2, ![8320, 2048]⟩
abbrev S1664x1408 : Shape := ⟨2, ![1664, 1408]⟩
abbrev S1x1024x1408 : Shape := ⟨3, ![1, 1024, 1408]⟩
abbrev S1664x1024 : Shape := ⟨2, ![1664, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x11264, .bf16⟩
  | .hbm, ⟨1, _⟩ => ⟨S2x2048x11264, .bf16⟩
  | .hbm, ⟨2, _⟩ => ⟨S8320x2048, .f32⟩
  | .local _ .vmem, ⟨0, _⟩ => ⟨S1664x1408, .bf16⟩
  | .local _ .vmem, ⟨1, _⟩ => ⟨S1664x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x11264 : Shape := ⟨2, ![8320, 11264]⟩
abbrev S2x2048x11264 : Shape := ⟨3, ![2, 2048, 11264]⟩
abbrev S_ : Shape := ⟨0, ![]⟩
abbrev S8320x2048 : Shape := ⟨2, ![8320, 2048]⟩
abbrev S1x2048x11264 : Shape := ⟨3, ![1, 2048, 11264]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S2x2048x11264, .bf16⟩
  | .hbm, ⟨2, _⟩ => ⟨S_, .f32⟩
  | .hbm, ⟨3, _⟩ => ⟨S8320x2048, .f32⟩
  | .hbm, ⟨4, _⟩ => ⟨S1x2048x11264, .bf16⟩
  | .hbm, ⟨5, _⟩ => ⟨S2048x11264, .bf16⟩
  | .hbm, ⟨6, _⟩ => ⟨S2048x11264, .f32⟩
  | .hbm, ⟨7, _⟩ => ⟨S8320x11264, .f32⟩
  | .hbm, ⟨8, _⟩ => ⟨S8320x11264, .f32⟩
  | .hbm, ⟨9, _⟩ => ⟨S8320x2048, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x8320 : Shape := ⟨2, ![2048, 8320]⟩
abbrev S8320x11264 : Shape := ⟨2, ![8320, 11264]⟩
abbrev S2x2048x11264 : Shape := ⟨3, ![2, 2048, 11264]⟩
abbrev S2048x1664 : Shape := ⟨2, ![2048, 1664]⟩
abbrev S1664x512 : Shape := ⟨2, ![1664, 512]⟩
abbrev S1x2048x512 : Shape := ⟨3, ![1, 2048, 512]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x8320, .bf16⟩
  | .hbm, ⟨1, _⟩ => ⟨S8320x11264, .bf16⟩
  | .hbm, ⟨2, _⟩ => ⟨S2x2048x11264, .f32⟩
  | .hbm, ⟨3, _⟩ => ⟨S2x2048x11264, .bf16⟩
  | .hbm, ⟨4, _⟩ => ⟨S2x2048x11264, .f32⟩
  | .hbm, ⟨5, _⟩ => ⟨S2x2048x11264, .bf16⟩
  | .local _ .vmem, ⟨0, _⟩ => ⟨S2048x1664, .bf16⟩
  | .local _ .vmem, ⟨1, _⟩ => ⟨S2048x1664, .bf16⟩
  | .local _ .vmem, ⟨2, _⟩ => ⟨S1664x512, .bf16⟩
  | .local _ .vmem, ⟨3, _⟩ => ⟨S1664x512, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .bf16⟩
  | .local _ .vmem, ⟨7, _⟩ => ⟨S1x2048x512, .bf16⟩
  | .local _ .vmem, ⟨8, _⟩ => ⟨S2048x512, .f32⟩
  | _, _ => ⟨S2048x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 22, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x8320 : Shape := ⟨2, ![2048, 8320]⟩
abbrev S8320x11264 : Shape := ⟨2, ![8320, 11264]⟩
abbrev S2x2048x11264 : Shape := ⟨3, ![2, 2048, 11264]⟩
abbrev S_ : Shape := ⟨0, ![]⟩
abbrev S2048x11264 : Shape := ⟨2, ![2048, 11264]⟩
abbrev S8320x2048 : Shape := ⟨2, ![8320, 2048]⟩
abbrev S11264x2048 : Shape := ⟨2, ![11264, 2048]⟩
abbrev S1x2048x11264 : Shape := ⟨3, ![1, 2048, 11264]⟩

abbrev nBuf : Space → Nat
  | .hbm => 23
  | .vmem => 0
  | .smem => 0
  | _ => 0

abbrev bufTy : (tb : Table) → Fin (tcTables nBuf tb) → BufTy
  | .hbm, ⟨0, _⟩ => ⟨S2048x8320, .bf16⟩
  | .hbm, ⟨1, _⟩ => ⟨S8320x11264, .bf16⟩
  | .hbm, ⟨2, _⟩ => ⟨S2x2048x11264, .f32⟩
  | .hbm, ⟨3, _⟩ => ⟨S2x2048x11264, .bf16⟩
  | .hbm, ⟨4, _⟩ => ⟨S_, .f32⟩
  | .hbm, ⟨5, _⟩ => ⟨S2048x11264, .f32⟩
  | .hbm, ⟨6, _⟩ => ⟨S8320x2048, .bf16⟩
  | .hbm, ⟨7, _⟩ => ⟨S8320x2048, .f32⟩
  | .hbm, ⟨8, _⟩ => ⟨S8320x11264, .f32⟩
  | .hbm, ⟨9, _⟩ => ⟨S8320x11264, .f32⟩
  | .hbm, ⟨10, _⟩ => ⟨S11264x2048, .f32⟩
  | .hbm, ⟨11, _⟩ => ⟨S2048x11264, .f32⟩
  | .hbm, ⟨12, _⟩ => ⟨S1x2048x11264, .f32⟩
  | .hbm, ⟨13, _⟩ => ⟨S2048x11264, .f32⟩
  | .hbm, ⟨14, _⟩ => ⟨S1x2048x11264, .f32⟩
  | .hbm, ⟨15, _⟩ => ⟨S1x2048x11264, .f32⟩
  | .hbm, ⟨16, _⟩ => ⟨S2x2048x11264, .f32⟩
  | .hbm, ⟨17, _⟩ => ⟨S2048x11264, .bf16⟩
  | .hbm, ⟨18, _⟩ => ⟨S1x2048x11264, .bf16⟩
  | .hbm, ⟨19, _⟩ => ⟨S2048x11264, .bf16⟩
  | .hbm, ⟨20, _⟩ => ⟨S1x2048x11264, .bf16⟩
  | .hbm, ⟨21, _⟩ => ⟨S1x2048x11264, .bf16⟩
  | .hbm, ⟨22, _⟩ => ⟨S2x2048x11264, .bf16⟩
  | _, _ => ⟨S2048x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel8.lean ====
abbrev S8320x5632 : Shape := ⟨2, ![8320, 5632]⟩
abbrev S2x5632x2048 : Shape := ⟨3, ![2, 5632, 2048]⟩
abbrev S8320x2048 : Shape := ⟨2, ![8320, 2048]⟩
abbrev S1664x1408 : Shape := ⟨2, ![1664, 1408]⟩
abbrev S1x1408x512 : Shape := ⟨3, ![1, 1408, 512]⟩
abbrev S1664x512 : Shape := ⟨2, ![1664, 512]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S2x5632x2048, .bf16⟩
  | .hbm, ⟨2, _⟩ => ⟨S8320x2048, .f32⟩
  | .hbm, ⟨3, _⟩ => ⟨S8320x2048, .f32⟩
  | .local _ .vmem, ⟨0, _⟩ => ⟨S1664x1408, .bf16⟩
  | .local _ .vmem, ⟨1, _⟩ => ⟨S1664x1408, .bf16⟩
  | .local _ .vmem, ⟨2, _⟩ => ⟨S1x1408x512, .bf16⟩
  | .local _ .vmem, ⟨3, _⟩ => ⟨S1x1408x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8320x5632 : Shape := ⟨2, ![8320, 5632]⟩
abbrev S2x5632x2048 : Shape := ⟨3, ![2, 5632, 2048]⟩
abbrev S8320x2048 : Shape := ⟨2, ![8320, 2048]⟩
abbrev S1x5632x2048 : Shape := ⟨3, ![1, 5632, 2048]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2x5632x2048, .bf16⟩
  | .hbm, ⟨2, _⟩ => ⟨S8320x2048, .f32⟩
  | .hbm, ⟨3, _⟩ => ⟨S8320x5632, .f32⟩
  | .hbm, ⟨4, _⟩ => ⟨S1x5632x2048, .bf16⟩
  | .hbm, ⟨5, _⟩ => ⟨S5632x2048, .bf16⟩
  | .hbm, ⟨6, _⟩ => ⟨S5632x2048, .f32⟩
  | .hbm, ⟨7, _⟩ => ⟨S8320x2048, .f32⟩
  | .hbm, ⟨8, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8320x2048 : Shape := ⟨2, ![8320, 2048]⟩
abbrev S2x5632x2048 : Shape := ⟨3, ![2, 5632, 2048]⟩
abbrev S8320x5632 : Shape := ⟨2, ![8320, 5632]⟩
abbrev S1664x2048 : Shape := ⟨2, ![1664, 2048]⟩
abbrev S1x512x2048 : Shape := ⟨3, ![1, 512, 2048]⟩
abbrev S1664x512 : Shape := ⟨2, ![1664, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S2x5632x2048, .bf16⟩
  | .hbm, ⟨2, _⟩ => ⟨S8320x5632, .bf16⟩
  | .local _ .vmem, ⟨0, _⟩ => ⟨S1664x2048, .f32⟩
  | .local _ .vmem, ⟨1, _⟩ => ⟨S1664x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 11, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x2048 : Shape := ⟨2, ![8320, 2048]⟩
abbrev S2x5632x2048 : Shape := ⟨3, ![2, 5632, 2048]⟩
abbrev S_ : Shape := ⟨0, ![]⟩
abbrev S8320x5632 : Shape := ⟨2, ![8320, 5632]⟩
abbrev S1x5632x2048 : Shape := ⟨3, ![1, 5632, 2048]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x5632x2048, .bf16⟩
  | .hbm, ⟨2, _⟩ => ⟨S_, .f32⟩
  | .hbm, ⟨3, _⟩ => ⟨S8320x5632, .f32⟩
  | .hbm, ⟨4, _⟩ => ⟨S1x5632x2048, .bf16⟩
  | .hbm, ⟨5, _⟩ => ⟨S5632x2048, .bf16⟩
  | .hbm, ⟨6, _⟩ => ⟨S5632x2048, .f32⟩
  | .hbm, ⟨7, _⟩ => ⟨S8320x2048, .f32⟩
  | .hbm, ⟨8, _⟩ => ⟨S8320x5632, .f32⟩
  | .hbm, ⟨9, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S5632x8320 : Shape := ⟨2, ![5632, 8320]⟩
abbrev S8320x2048 : Shape := ⟨2, ![8320, 2048]⟩
abbrev S2x5632x2048 : Shape := ⟨3, ![2, 5632, 2048]⟩
abbrev S1408x1664 : Shape := ⟨2, ![1408, 1664]⟩
abbrev S1664x512 : Shape := ⟨2, ![1664, 512]⟩
abbrev S1x1408x512 : Shape := ⟨3, ![1, 1408, 512]⟩
abbrev S1408x512 : Shape := ⟨2, ![1408, 512]⟩

abbrev nBuf : Space → Nat
  | .hbm => 6
  | .vmem => 9
  | .smem => 0
  | _ => 0

abbrev bufTy : (tb : Table) → Fin (tcTables nBuf tb) → BufTy
  | .hbm, ⟨0, _⟩ => ⟨S5632x8320, .bf16⟩
  | .hbm, ⟨1, _⟩ => ⟨S8320x2048, .f32⟩
  | .hbm, ⟨2, _⟩ => ⟨S2x5632x2048, .f32⟩
  | .hbm, ⟨3, _⟩ => ⟨S2x5632x2048, .bf16⟩
  | .hbm, ⟨4, _⟩ => ⟨S2x5632x2048, .f32⟩
  | .hbm, ⟨5, _⟩ => ⟨S2x5632x2048, .bf16⟩
  | .local _ .vmem, ⟨0, _⟩ => ⟨S1408x1664, .bf16⟩
  | .local _ .vmem, ⟨1, _⟩ => ⟨S1408x1664, .bf16⟩
  | .local _ .vmem, ⟨2, _⟩ => ⟨S1664x512, .f32⟩
  | .local _ .vmem, ⟨3, _⟩ => ⟨S1664x512, .f32⟩
  | .local _ .vmem, ⟨4, _⟩ => ⟨S1x1408x512, .f32⟩
  | .local _ .vmem, ⟨5, _⟩ => ⟨S1x1408x512, .f32⟩
  | .local _ .vmem, ⟨6, _⟩ => ⟨S1x1408x512, .bf16⟩
  | .local _ .vmem, ⟨7, _⟩ => ⟨S1x1408x512, .bf16⟩
  | .local _ .vmem, ⟨8, _⟩ => ⟨S1408x512, .f32⟩
  | _, _ => ⟨S5632x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S5632x8320 : Shape := ⟨2, ![5632, 8320]⟩
abbrev S8320x2048 : Shape := ⟨2, ![8320, 2048]⟩
abbrev S2x5632x2048 : Shape := ⟨3, ![2, 5632, 2048]⟩
abbrev S_ : Shape := ⟨0, ![]⟩
abbrev S5632x2048 : Shape := ⟨2, ![5632, 2048]⟩
abbrev S8320x5632 : Shape := ⟨2, ![8320, 5632]⟩
abbrev S2048x5632 : Shape := ⟨2, ![2048, 5632]⟩
abbrev S1x5632x2048 : Shape := ⟨3, ![1, 5632, 2048]⟩

abbrev nBuf : Space → Nat
  | .hbm => 22
  | .vmem => 0
  | .smem => 0
  | _ => 0

abbrev bufTy : (tb : Table) → Fin (tcTables nBuf tb) → BufTy
  | .hbm, ⟨0, _⟩ => ⟨S5632x8320, .bf16⟩
  | .hbm, ⟨1, _⟩ => ⟨S8320x2048, .f32⟩
  | .hbm, ⟨2, _⟩ => ⟨S2x5632x2048, .f32⟩
  | .hbm, ⟨3, _⟩ => ⟨S2x5632x2048, .bf16⟩
  | .hbm, ⟨4, _⟩ => ⟨S_, .f32⟩
  | .hbm, ⟨5, _⟩ => ⟨S5632x2048, .f32⟩
  | .hbm, ⟨6, _⟩ => ⟨S8320x5632, .bf16⟩
  | .hbm, ⟨7, _⟩ => ⟨S8320x5632, .f32⟩
  | .hbm, ⟨8, _⟩ => ⟨S8320x2048, .f32⟩
  | .hbm, ⟨9, _⟩ => ⟨S2048x5632, .f32⟩
  | .hbm, ⟨10, _⟩ => ⟨S5632x2048, .f32⟩
  | .hbm, ⟨11, _⟩ => ⟨S1x5632x2048, .f32⟩
  | .hbm, ⟨12, _⟩ => ⟨S5632x2048, .f32⟩
  | .hbm, ⟨13, _⟩ => ⟨S1x5632x2048, .f32⟩
  | .hbm, ⟨14, _⟩ => ⟨S1x5632x2048, .f32⟩
  | .hbm, ⟨15, _⟩ => ⟨S2x5632x2048, .f32⟩
  | .hbm, ⟨16, _⟩ => ⟨S5632x2048, .bf16⟩
  | .hbm, ⟨17, _⟩ => ⟨S1x5632x2048, .bf16⟩
  | .hbm, ⟨18, _⟩ => ⟨S5632x2048, .bf16⟩
  | .hbm, ⟨19, _⟩ => ⟨S1x5632x2048, .bf16⟩
  | .hbm, ⟨20, _⟩ => ⟨S1x5632x2048, .bf16⟩
  | .hbm, ⟨21, _⟩ => ⟨S2x5632x2048, .bf16⟩
  | _, _ => ⟨S5632x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Real.lean ====
/- The gradient of the forgetting attention over the real numbers, and the few facts that carry a value from the extended
   reals to them. -/
module
public import Idealize.ShloMosaic.PureOps.Ideal
public import Idealize.ShloMosaic.PureOps.Ideal.Laws
public import Idealize.ShloMosaic.PureOps.Reduce
public import Idealize.ShloMosaic.Lib.Pointwise

@[expose] public section

set_option maxRecDepth 16384

noncomputable section

open Idealize.ShloMosaic

namespace Cert.Fox

/-! ## From the extended reals to the reals -/

/-- The factor of the scores, the rounded reciprocal square root of the head width. -/
def scale : ℝ := (Ideal.ofBits .f32 0x3DB504F3#32).toReal

theorem scale_eq : Ideal.ofBits .f32 0x3DB504F3#32 = ((scale : ℝ) : EReal) := by
  have h : Ideal.ofBits .f32 0x3DB504F3#32 ≠ ⊤ ∧ Ideal.ofBits .f32 0x3DB504F3#32 ≠ ⊥ := by
    simp [Ideal.ofBits, Ideal.ieee, -EReal.coe_mul]
  exact (EReal.coe_toReal h.1 h.2).symm

theorem ninf_eq : Ideal.ofBits .f32 0xFF800000#32 = (⊥ : EReal) := by
  simp [Ideal.ofBits, Ideal.ieee]

/-- A finite sum of reals is the same in the extended reals. -/
theorem coe_sum {ι : Type} (s : Finset ι) (f : ι → ℝ) : ((∑ k ∈ s, f k : ℝ) : EReal) = ∑ k ∈ s, ((f k : ℝ) : EReal) :=
  map_sum (⟨⟨Real.toEReal, EReal.coe_zero⟩, EReal.coe_add⟩ : ℝ →+ EReal) f s

/-- A sum of terms that are all reals. -/
theorem sum_coe {ι : Type} {s : Finset ι} {f : ι → EReal} {F : ι → ℝ} (h : ∀ k, f k = ((F k : ℝ) : EReal)) :
    ∑ k ∈ s, f k = ((∑ k ∈ s, F k : ℝ) : EReal) := by
  rw [coe_sum]
  exact Finset.sum_congr rfl fun k _ => h k

/-- A product of two real rows is a real. -/
theorem dot_coe {n : ℕ} {a b : Fin n → EReal} {A B : Fin n → ℝ} (ha : ∀ k, a k = ((A k : ℝ) : EReal))
    (hb : ∀ k, b k = ((B k : ℝ) : EReal)) : ∑ k, a k * b k = ((∑ k, A k * B k : ℝ) : EReal) :=
  sum_coe fun k => by rw [ha, hb, EReal.coe_mul]

/-- The exponential of a score: the real one where the key counts, zero where it does not. -/
theorem exp_if {p : Prop} [Decidable p] (a b : ℝ) :
    Ideal.exp ((if p then ((a : ℝ) : EReal) else (⊥ : EReal)) - ((b : ℝ) : EReal))
      = ((if p then Real.exp (a - b) else 0 : ℝ) : EReal) := by
  split
  · rw [← EReal.coe_sub, Ideal.exp_coe]
  · rw [EReal.bot_sub, Ideal.exp_bot, EReal.coe_zero]

/-- A score less its bias, the bias infinite where the key lies in the padding. -/
theorem sub_if {p : Prop} [Decidable p] (a b : ℝ) :
    ((a : ℝ) : EReal) - (if p then ((b : ℝ) : EReal) else (⊤ : EReal))
      = if p then ((a - b : ℝ) : EReal) else (⊥ : EReal) := by
  split
  · rw [EReal.coe_sub]
  · exact EReal.sub_top _

/-- A quotient of reals whose divisor is not zero. -/
theorem div_real (a : ℝ) {b : ℝ} (hb : b ≠ 0) : Ideal.div ((a : ℝ) : EReal) ((b : ℝ) : EReal) = ((a / b : ℝ) : EReal) := by
  rw [Ideal.div_coe hb, ← EReal.coe_mul, mul_one_div]

theorem select_decide (p : Prop) [Decidable p] (a b : EReal) :
    Scalar.select (BitVec.ofBool (decide p)) a b = if p then a else b := by
  by_cases h : p <;> simp [h, Scalar.select]

/-- The largest of a row is a real where no entry is `⊤` and one is not `⊥`. -/
theorem max_real {s t u : Shape} {axes : List (Fin s.rank)} (x : s.Idx → EReal) (init : u.Idx → EReal)
    (h : s.ReducesTo axes t) (hu : 0 < u.numel) (j : t.Idx) (hi : init (Shape.Idx.first hu) = ⊥) (ht : ∀ i, x i ≠ ⊤)
    (k : s.Idx) (hk : h.drop k = j) (hx : x k ≠ ⊥) :
    ∃ r : ℝ, Host.reduce (FloatOps.maximumf (F := Ideal) (φ := .f32)) x init h hu j = ((r : ℝ) : EReal) := by
  have e : Host.reduce (FloatOps.maximumf (F := Ideal) (φ := .f32)) x init h hu j
      = (Finset.univ.filter fun i => h.drop i = j).fold max ⊥ x := by
    rw [← hi]
    exact Host.reduce_eq_fold (max : EReal → EReal → EReal) x init h hu j
  rw [e]
  refine ⟨_, (EReal.coe_toReal ?_ ?_).symm⟩
  · exact ne_of_lt (Finset.fold_max_lt (c := (⊤ : EReal)) |>.2 ⟨bot_lt_top, fun i _ => lt_top_iff_ne_top.2 (ht i)⟩)
  · exact ne_of_gt (Finset.lt_fold_max (c := (⊥ : EReal)) |>.2 (Or.inr ⟨k, by simp [hk], bot_lt_iff_ne_bot.2 hx⟩))

/-! ## The gradient over the reals

`a` is the table of the rows of queries, keys and values (column `128 h + d` of each third is head `h`), the first 112 rows
the padding; `c` is the accumulated decay by head, padding included; `g` is the gradient of the attention's result, by real
token. Queries and keys are counted from the first real token. -/

variable (a c g : ℕ → ℕ → ℝ)

def score (h i j : ℕ) : ℝ :=
  (∑ d : Fin 128, a (112 + i) (h * 128 + d.val) * a (112 + j) (1024 + (h * 128 + d.val))) * scale + c h (112 + i) - c h (112 + j)

/-- The weight of a key, the scores taken relative to `M`. -/
def weight (M : ℝ) (h i j : ℕ) : ℝ := if j ≤ i then Real.exp (score a c h i j - M) else 0

def total (M : ℝ) (h i : ℕ) : ℝ := ∑ j : Fin 8208, weight a c M h i j.val

/-- The probability a query gives a key. -/
def prob (h i j : ℕ) : ℝ := weight a c 0 h i j / total a c 0 h i

/-- The gradient of a probability. -/
def dprob (h i j : ℕ) : ℝ := ∑ d : Fin 128, g i (h * 128 + d.val) * a (112 + j) (2048 + (h * 128 + d.val))

/-- A query's mean of it. -/
def mean (h i : ℕ) : ℝ := ∑ j : Fin 8208, prob a c h i j.val * dprob a g h i j.val

/-- The gradient of a score. -/
def dscore (h i j : ℕ) : ℝ := prob a c h i j * (dprob a g h i j - mean a c g h i)

theorem weight_shift (M : ℝ) (h i j : ℕ) : weight a c M h i j = Real.exp (-M) * weight a c 0 h i j := by
  unfold weight
  split
  · rw [← Real.exp_add]; congr 1; ring
  · rw [mul_zero]

theorem total_shift (M : ℝ) (h i : ℕ) : total a c M h i = Real.exp (-M) * total a c 0 h i := by
  unfold total
  rw [Finset.mul_sum]
  exact Finset.sum_congr rfl fun j _ => weight_shift a c M h i j.val

theorem total_pos (M : ℝ) (h i : ℕ) : 0 < total a c M h i := by
  have h0 : weight a c M h i (0 : Fin 8208).val ≤ total a c M h i :=
    Finset.single_le_sum (f := fun j : Fin 8208 => weight a c M h i j.val)
      (fun j _ => by unfold weight; split <;> [exact (Real.exp_pos _).le; exact le_refl _]) (Finset.mem_univ _)
  refine lt_of_lt_of_le ?_ h0
  unfold weight
  rw [if_pos (show ((0 : Fin 8208) : ℕ) ≤ i from Nat.zero_le _)]
  exact Real.exp_pos _

/-- The probability does not depend on what the scores are taken relative to. -/
theorem weight_div (M : ℝ) (h i j : ℕ) : weight a c M h i j / total a c M h i = prob a c h i j := by
  rw [weight_shift, total_shift, mul_div_mul_left _ _ (Real.exp_pos _).ne']
  rfl

theorem sum_prob (h i : ℕ) : ∑ j : Fin 8208, prob a c h i j.val = 1 := by
  unfold prob
  rw [← Finset.sum_div]
  exact div_self (total_pos a c 0 h i).ne'

theorem sum_dscore (h i : ℕ) : ∑ j : Fin 8208, dscore a c g h i j.val = 0 := by
  have e : ∑ j : Fin 8208, dscore a c g h i j.val
      = ∑ j : Fin 8208, prob a c h i j.val * dprob a g h i j.val - (∑ j : Fin 8208, prob a c h i j.val) * mean a c g h i := by
    rw [Finset.sum_mul, ← Finset.sum_sub_distrib]
    exact Finset.sum_congr rfl fun j _ => mul_sub _ _ _
  rw [e, sum_prob, one_mul]
  exact sub_self _

theorem prob_zero {h i j : ℕ} (hj : ¬j ≤ i) : prob a c h i j = 0 := by
  unfold prob weight
  rw [if_neg hj, zero_div]

/-- The mean through the attention's own result. -/
theorem mean_eq (h i : ℕ) :
    ∑ d : Fin 128, (∑ j : Fin 8208, prob a c h i j.val * a (112 + j.val) (2048 + (h * 128 + d.val))) * g i (h * 128 + d.val)
      = mean a c g h i := by
  unfold mean dprob
  simp only [Finset.sum_mul, Finset.mul_sum]
  rw [Finset.sum_comm]
  exact Finset.sum_congr rfl fun j _ => Finset.sum_congr rfl fun d _ => by ring

/-- The probability from the logarithm of the total: what a query's row keeps of its softmax. -/
theorem prob_exp (M : ℝ) {h i j : ℕ} (hj : j ≤ i) (x : ℝ) (hx : x = score a c h i j - (M + Real.log (total a c M h i))) :
    Real.exp x = prob a c h i j := by
  rw [← weight_div a c M, hx, weight, if_pos hj, ← sub_sub, Real.exp_sub, Real.exp_log (total_pos a c M h i)]

/-- The gradient of a score as a softmax written with its exponentials and their total gives it. -/
theorem dscore_eq (M : ℝ) (h i j : ℕ) :
    (dprob a g h i j / total a c M h i
        + -∑ k : Fin 8208, dprob a g h i k.val * (1 / (total a c M h i * total a c M h i)) * weight a c M h i k.val)
        * weight a c M h i j = dscore a c g h i j := by
  have ht := (total_pos a c M h i).ne'
  have e : ∑ k : Fin 8208, dprob a g h i k.val * (1 / (total a c M h i * total a c M h i)) * weight a c M h i k.val
      = mean a c g h i / total a c M h i := by
    unfold mean
    rw [Finset.sum_div]
    refine Finset.sum_congr rfl fun k _ => ?_
    rw [← weight_div a c M]
    field_simp
  rw [e]
  unfold dscore
  rw [← weight_div a c M]
  field_simp
  ring

end Cert.Fox

end
-- ==== Proof.Ref.lean ====
/- The reference's results named step by step, and each step read at an index. -/
module
public import proofs.«01_k».proof.Proof.Gen.ReferenceIdeal
public import proofs.«01_k».proof.Proof.Gen.ReferenceIdeal.Run
public import proofs.«01_k».proof.Proof.Real
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Fox

/-- The queries by head, over the real tokens. -/
def hq (A : FVec Ideal S8320x15360 .bf16) : FVec Ideal S8x8208x128 .f32 :=
  transpose S8x8208x128 [1, 0, 2] (shapeCast _ (extf .f32 (extractStridedSlice S8208x1024 ![112, 0] A slices_S8320x15360_S8208x1024_112_0) bitsLt_bf16_f32) shapeCasts_S8208x1024_S8208x8x128) transposes_S8208x8x128_S8x8208x128_1_0_2

/-- The keys by head. -/
def hk (A : FVec Ideal S8320x15360 .bf16) : FVec Ideal S8x8208x128 .f32 :=
  transpose S8x8208x128 [1, 0, 2] (shapeCast _ (extf .f32 (extractStridedSlice S8208x1024 ![112, 1024] A slices_S8320x15360_S8208x1024_112_1024) bitsLt_bf16_f32) shapeCasts_S8208x1024_S8208x8x128) transposes_S8208x8x128_S8x8208x128_1_0_2

/-- The values by head. -/
def hv (A : FVec Ideal S8320x15360 .bf16) : FVec Ideal S8x8208x128 .f32 :=
  transpose S8x8208x128 [1, 0, 2] (shapeCast _ (extf .f32 (extractStridedSlice S8208x1024 ![112, 2048] A slices_S8320x15360_S8208x1024_112_2048) bitsLt_bf16_f32) shapeCasts_S8208x1024_S8208x8x128) transposes_S8208x8x128_S8x8208x128_1_0_2

/-- The gradient of the attention's result by head. -/
def hd (D : FVec Ideal S8208x1024 .bf16) : FVec Ideal S8x8208x128 .f32 :=
  transpose S8x8208x128 [1, 0, 2] (shapeCast _ (extf .f32 D bitsLt_bf16_f32) shapeCasts_S8208x1024_S8208x8x128) transposes_S8208x8x128_S8x8208x128_1_0_2

/-- The accumulated decay over the real tokens. -/
def cc (C : FVec Ideal S8x8320 .f32) : FVec Ideal S8x8208 .f32 :=
  extractStridedSlice S8x8208 ![0, 112] C slices_S8x8320_S8x8208_0_112

/-- Where a key is not after its query. -/
def msk : IVec S8x8208x8208 1 :=
  broadcastInDim S8x8208x8208 ![1, 2] bcast_S8208x8208_S8x8208x8208_1_2 (cmpi .sle (broadcastInDim S8208x8208 ![0, 1] bcast_S1x8208_S8208x8208_0_1 (broadcastInDim S1x8208 ![1] bcast_S8208_S1x8208_1 (iotaInDim S8208 32 0))) (broadcastInDim S8208x8208 ![0, 1] bcast_S8208x1_S8208x8208_0_1 (broadcastInDim S8208x1 ![0] bcast_S8208_S8208x1_0 (iotaInDim S8208 32 0))))

/-- The masked scores. -/
def sc (A : FVec Ideal S8320x15360 .bf16) (C : FVec Ideal S8x8320 .f32) : FVec Ideal S8x8208x8208 .f32 :=
  select (msk) (subf (addf (mulf (Host.dotGeneral dot_S8x8208x128_S8x8208x128_S8x8208x8208_2_2_1_1_0_0 none (hq A) (hk A)) (broadcastInDim S8x8208x8208 ![] bcast_S_S8x8208x8208 (constant S_ .f32 0x3DB504F3#32))) (broadcastInDim S8x8208x8208 ![0, 1, 2] bcast_S8x8208x1_S8x8208x8208_0_1_2 (broadcastInDim S8x8208x1 ![0, 1] bcast_S8x8208_S8x8208x1_0_1 (cc C)))) (broadcastInDim S8x8208x8208 ![0, 1, 2] bcast_S8x1x8208_S8x8208x8208_0_1_2 (broadcastInDim S8x1x8208 ![0, 2] bcast_S8x8208_S8x1x8208_0_2 (cc C)))) (broadcastInDim S8x8208x8208 ![] bcast_S_S8x8208x8208 (id (constant S_ .f32 0xFF800000#32)))

/-- The largest score of each query. -/
def mx (A : FVec Ideal S8320x15360 .bf16) (C : FVec Ideal S8x8320 .f32) : FVec Ideal S8x8208 .f32 :=
  maximumf (broadcastInDim S8x8208 ![] bcast_S_S8x8208 (constant S_ .f32 0xFF800000#32)) (Host.reduce FloatOps.maximumf (sc A C) (constant S_ .f32 0xFF800000#32) reducesTo_S8x8208x8208_S8x8208_d2 h_S_)

/-- The exponentials of the scores less the largest. -/
def ex (A : FVec Ideal S8320x15360 .bf16) (C : FVec Ideal S8x8320 .f32) : FVec Ideal S8x8208x8208 .f32 :=
  Host.exp (subf (sc A C) (broadcastInDim S8x8208x8208 ![0, 1, 2] bcast_S8x8208x1_S8x8208x8208_0_1_2 (broadcastInDim S8x8208x1 ![0, 1] bcast_S8x8208_S8x8208x1_0_1 (mx A C))))

/-- Their sum over the keys. -/
def ls (A : FVec Ideal S8320x15360 .bf16) (C : FVec Ideal S8x8320 .f32) : FVec Ideal S8x8208x1 .f32 :=
  broadcastInDim S8x8208x1 ![0, 1] bcast_S8x8208_S8x8208x1_0_1 (Host.reduceAdd (ex A C) (constant S_ .f32 0x00000000#32) reducesTo_S8x8208x8208_S8x8208_d2 h_S_)

/-- The probabilities. -/
def pr (A : FVec Ideal S8320x15360 .bf16) (C : FVec Ideal S8x8320 .f32) : FVec Ideal S8x8208x8208 .f32 :=
  Host.divf (ex A C) (broadcastInDim S8x8208x8208 ![0, 1, 2] bcast_S8x8208x1_S8x8208x8208_0_1_2 (ls A C))

/-- The gradient of the probabilities. -/
def dp (A : FVec Ideal S8320x15360 .bf16) (D : FVec Ideal S8208x1024 .bf16) : FVec Ideal S8x8208x8208 .f32 :=
  Host.dotGeneral dot_S8x8208x128_S8x8208x128_S8x8208x8208_2_2_1_1_0_0 none (hd D) (hv A)

/-- What each row takes from it. -/
def cor (A : FVec Ideal S8320x15360 .bf16) (C : FVec Ideal S8x8320 .f32) (D : FVec Ideal S8208x1024 .bf16) : FVec Ideal S8x8208 .f32 :=
  Host.reduceAdd (Host.negf (shapeCast _ (Host.reduceAdd (mulf (mulf (dp A D) (broadcastInDim S8x8208x8208 ![0, 1, 2] bcast_S8x8208x1_S8x8208x8208_0_1_2 (Host.divf (broadcastInDim S8x8208x1 ![] bcast_S_S8x8208x1 (constant S_ .f32 0x3F800000#32)) (mulf (ls A C) (ls A C))))) (ex A C)) (constant S_ .f32 0x00000000#32) reducesTo_S8x8208x8208_S8x8208_d2 h_S_) shapeCasts_S8x8208_S8x8208x1)) (constant S_ .f32 0x00000000#32) reducesTo_S8x8208x1_S8x8208_d2 h_S_

/-- The gradient of the scores. -/
def ds (A : FVec Ideal S8320x15360 .bf16) (C : FVec Ideal S8x8320 .f32) (D : FVec Ideal S8208x1024 .bf16) : FVec Ideal S8x8208x8208 .f32 :=
  select (msk) (mulf (addf (Host.divf (dp A D) (broadcastInDim S8x8208x8208 ![0, 1, 2] bcast_S8x8208x1_S8x8208x8208_0_1_2 (ls A C))) (broadcastInDim S8x8208x8208 ![0, 1] bcast_S8x8208_S8x8208x8208_0_1 (cor A C D))) (ex A C)) (broadcastInDim S8x8208x8208 ![] bcast_S_S8x8208x8208 (constant S_ .f32 0x00000000#32))

/-- The gradient of the queries. -/
def outQ (A : FVec Ideal S8320x15360 .bf16) (C : FVec Ideal S8x8320 .f32) (D : FVec Ideal S8208x1024 .bf16) : FVec Ideal S8320x1024 .bf16 :=
  pad S8320x1024 ![112, 0] ![0, 0] ![0, 0] (truncf .bf16 (shapeCast _ (transpose S8208x8x128 [1, 0, 2] (Host.dotGeneral dot_S8x8208x8208_S8x8208x128_S8x8208x128_2_1_1_2_0_0 none (mulf (ds A C D) (broadcastInDim S8x8208x8208 ![] bcast_S_S8x8208x8208 (constant S_ .f32 0x3DB504F3#32))) (hk A)) transposes_S8x8208x128_S8208x8x128_1_0_2) shapeCasts_S8208x8x128_S8208x1024) bitsLt_bf16_f32) (sitofp .bf16 (constantI S_ 32 0#32)) pads_S8208x1024_S8320x1024_11200_000 h_S_

/-- The gradient of the keys. -/
def outK (A : FVec Ideal S8320x15360 .bf16) (C : FVec Ideal S8x8320 .f32) (D : FVec Ideal S8208x1024 .bf16) : FVec Ideal S8320x1024 .bf16 :=
  pad S8320x1024 ![112, 0] ![0, 0] ![0, 0] (truncf .bf16 (shapeCast _ (transpose S8208x8x128 [1, 0, 2] (Host.dotGeneral dot_S8x8208x8208_S8x8208x128_S8x8208x128_1_1_2_2_0_0 none (mulf (ds A C D) (broadcastInDim S8x8208x8208 ![] bcast_S_S8x8208x8208 (constant S_ .f32 0x3DB504F3#32))) (hq A)) transposes_S8x8208x128_S8208x8x128_1_0_2) shapeCasts_S8208x8x128_S8208x1024) bitsLt_bf16_f32) (sitofp .bf16 (constantI S_ 32 0#32)) pads_S8208x1024_S8320x1024_11200_000 h_S_

/-- The gradient of the values. -/
def outV (A : FVec Ideal S8320x15360 .bf16) (C : FVec Ideal S8x8320 .f32) (D : FVec Ideal S8208x1024 .bf16) : FVec Ideal S8320x1024 .bf16 :=
  pad S8320x1024 ![112, 0] ![0, 0] ![0, 0] (truncf .bf16 (shapeCast _ (transpose S8208x8x128 [1, 0, 2] (transpose S8x8208x128 [0, 2, 1] (Host.dotGeneral dot_S8x8208x128_S8x8208x8208_S8x128x8208_1_1_2_2_0_0 none (hd D) (pr A C)) transposes_S8x128x8208_S8x8208x128_0_2_1) transposes_S8x8208x128_S8208x8x128_1_0_2) shapeCasts_S8208x8x128_S8208x1024) bitsLt_bf16_f32) (sitofp .bf16 (constantI S_ 32 0#32)) pads_S8208x1024_S8320x1024_11200_000 h_S_

/-- The gradient of the accumulated decay. -/
def outC (A : FVec Ideal S8320x15360 .bf16) (C : FVec Ideal S8x8320 .f32) (D : FVec Ideal S8208x1024 .bf16) : FVec Ideal S8x1x8320 .f32 :=
  broadcastInDim S8x1x8320 ![0, 2] bcast_S8x8320_S8x1x8320_0_2 (pad S8x8320 ![0, 112] ![0, 0] ![0, 0] (addf (Host.reduceAdd (shapeCast _ (Host.reduceAdd (Host.negf (ds A C D)) (constant S_ .f32 0x00000000#32) reducesTo_S8x8208x8208_S8x8208_d1 h_S_) shapeCasts_S8x8208_S8x1x8208) (constant S_ .f32 0x00000000#32) reducesTo_S8x1x8208_S8x8208_d1 h_S_) (Host.reduceAdd (shapeCast _ (Host.reduceAdd (ds A C D) (constant S_ .f32 0x00000000#32) reducesTo_S8x8208x8208_S8x8208_d2 h_S_) shapeCasts_S8x8208_S8x8208x1) (constant S_ .f32 0x00000000#32) reducesTo_S8x8208x1_S8x8208_d2 h_S_)) (sitofp .f32 (constantI S_ 32 0#32)) pads_S8x8208_S8x8320_000_11200 h_S_)

variable (m : (ℓ : Loc nD τ sig) → Buf (Elt Ideal) ℓ) (c : Dev nD)

theorem res_outQ : Value.res_main_v98 m c = outQ (m ((c.tc : Thread nD τ).loc main_arg0)) (m ((c.tc : Thread nD τ).loc main_arg1)) (m ((c.tc : Thread nD τ).loc main_arg2)) := rfl

theorem res_outK : Value.res_main_v100 m c = outK (m ((c.tc : Thread nD τ).loc main_arg0)) (m ((c.tc : Thread nD τ).loc main_arg1)) (m ((c.tc : Thread nD τ).loc main_arg2)) := rfl

theorem res_outV : Value.res_main_v102 m c = outV (m ((c.tc : Thread nD τ).loc main_arg0)) (m ((c.tc : Thread nD τ).loc main_arg1)) (m ((c.tc : Thread nD τ).loc main_arg2)) := rfl

theorem res_outC : Value.res_main_v104 m c = outC (m ((c.tc : Thread nD τ).loc main_arg0)) (m ((c.tc : Thread nD τ).loc main_arg1)) (m ((c.tc : Thread nD τ).loc main_arg2)) := rfl

/-! ## Over real arguments -/

variable {A : FVec Ideal S8320x15360 .bf16} {C : FVec Ideal S8x8320 .f32} {D : FVec Ideal S8208x1024 .bf16}
  {a d g : ℕ → ℕ → ℝ}
  (hA : ∀ (r : Fin 8320) (k : Fin 15360), A (ix2 r k) = ((a r.val k.val : ℝ) : EReal))
  (hC : ∀ (h : Fin 8) (r : Fin 8320), C (ix2 h r) = ((d h.val r.val : ℝ) : EReal))
  (hD : ∀ (r : Fin 8208) (k : Fin 1024), D (ix2 r k) = ((g r.val k.val : ℝ) : EReal))

include hA in
theorem hq_at (h : Fin 8) (i : Fin 8208) (k : Fin 128) : hq A (ix3 h i k) = ((a (112 + i.val) (h.val * 128 + k.val) : ℝ) : EReal) := by
  pointwise [hq]
  exact hA _ _

include hA in
theorem hk_at (h : Fin 8) (i : Fin 8208) (k : Fin 128) :
    hk A (ix3 h i k) = ((a (112 + i.val) (1024 + (h.val * 128 + k.val)) : ℝ) : EReal) := by
  pointwise [hk]
  exact hA _ _

include hA in
theorem hv_at (h : Fin 8) (i : Fin 8208) (k : Fin 128) :
    hv A (ix3 h i k) = ((a (112 + i.val) (2048 + (h.val * 128 + k.val)) : ℝ) : EReal) := by
  pointwise [hv]
  exact hA _ _

include hD in
theorem hd_at (h : Fin 8) (i : Fin 8208) (k : Fin 128) : hd D (ix3 h i k) = ((g i.val (h.val * 128 + k.val) : ℝ) : EReal) := by
  pointwise [hd]
  exact hD _ _

include hA hC in
theorem sc_at (h : Fin 8) (i j : Fin 8208) :
    sc A C (ix3 h i j) = if j.val ≤ i.val then ((score a d h.val i.val j.val : ℝ) : EReal) else (⊥ : EReal) := by
  have hw : IntOp.cmpi CmpIPredicate.sle (BitVec.ofNat 32 j.val) (BitVec.ofNat 32 i.val)
      = BitVec.ofBool (decide (j.val ≤ i.val)) := by word_cmp
  pointwise [sc, msk, cc]
  rw [hw, select_decide, dot_coe (fun k => hq_at hA h i k) (fun k => hk_at hA h j k), scale_eq, hC, hC, ← EReal.coe_mul,
    ← EReal.coe_add, ← EReal.coe_sub]
  exact if_congr Iff.rfl rfl ninf_eq

theorem drop_at (h : Fin 8) (i j : Fin 8208) : reducesTo_S8x8208x8208_S8x8208_d2.drop (ix3 h i j) = ix2 h i := by
  funext b
  fin_cases b <;> rfl

/-- The integer zero is the number zero. -/
theorem sitofp_zero : (((0#32 : BitVec 32).toInt : ℝ) : EReal) = ((0 : ℝ) : EReal) := by simp

/-- The maximum with a constant, at an entry. -/
theorem max_at (b : BitVec 32) (x : Vec Ideal S8x8208 .f32) (h : Fin 8) (i : Fin 8208) :
    maximumf (F := Ideal) (φ := .f32) (broadcastInDim S8x8208 ![] bcast_S_S8x8208 (constant S_ .f32 b)) x (ix2 h i)
      = max (Ideal.ofBits .f32 b) (x (ix2 h i)) := by
  pointwise

include hA hC in
theorem mx_at (h : Fin 8) (i : Fin 8208) : ∃ M : ℝ, mx A C (ix2 h i) = ((M : ℝ) : EReal) := by
  obtain ⟨M, hM⟩ := max_real (sc A C) (constant (F := Ideal) S_ .f32 0xFF800000#32) reducesTo_S8x8208x8208_S8x8208_d2 h_S_
    (ix2 h i) ninf_eq
    (fun k => by
      rw [eq_ix3 k]
      refine (ne_of_eq_of_ne (sc_at hA hC (k 0) (k 1) (k 2)) ?_)
      split
      · exact EReal.coe_ne_top _
      · exact bot_ne_top)
    (ix3 h i i) (drop_at h i i)
    (ne_of_eq_of_ne (sc_at hA hC h i i) (by rw [if_pos le_rfl]; exact EReal.coe_ne_bot _))
  refine ⟨M, ?_⟩
  unfold mx
  rw [max_at, hM, ninf_eq]
  exact max_eq_right bot_le

include hA hC in
theorem ex_at {M : ℝ} {h : Fin 8} {i : Fin 8208} (hM : mx A C (ix2 h i) = ((M : ℝ) : EReal)) (j : Fin 8208) :
    ex A C (ix3 h i j) = ((weight a d M h.val i.val j.val : ℝ) : EReal) := by
  pointwise [ex]
  rw [hM, sc_at hA hC, exp_if]
  rfl

include hA hC in
theorem ls_at {M : ℝ} {h : Fin 8} {i : Fin 8208} (hM : mx A C (ix2 h i) = ((M : ℝ) : EReal)) :
    ls A C (ix3 h i 0) = ((total a d M h.val i.val : ℝ) : EReal) := by
  pointwise [ls]
  exact sum_coe fun j => ex_at hA hC hM j

include hA hC in
theorem pr_at (h : Fin 8) (i j : Fin 8208) : pr A C (ix3 h i j) = ((prob a d h.val i.val j.val : ℝ) : EReal) := by
  obtain ⟨M, hM⟩ := mx_at hA hC h i
  pointwise [pr]
  rw [ex_at hA hC hM, ls_at hA hC hM, div_real _ (total_pos a d M _ _).ne', weight_div]

include hA hD in
theorem dp_at (h : Fin 8) (i j : Fin 8208) : dp A D (ix3 h i j) = ((dprob a g h.val i.val j.val : ℝ) : EReal) := by
  pointwise [dp]
  exact dot_coe (fun k => hd_at hD h i k) (fun k => hv_at hA h j k)

include hA hC hD in
theorem cor_at {M : ℝ} {h : Fin 8} {i : Fin 8208} (hM : mx A C (ix2 h i) = ((M : ℝ) : EReal)) :
    cor A C D (ix2 h i) = ((-∑ k : Fin 8208, dprob a g h.val i.val k.val
      * (1 / (total a d M h.val i.val * total a d M h.val i.val)) * weight a d M h.val i.val k.val : ℝ) : EReal) := by
  pointwise [cor]
  rw [Fin.sum_univ_one, EReal.coe_neg]
  refine congrArg _ (sum_coe fun k => ?_)
  rw [dp_at hA hD, ex_at hA hC hM, ls_at hA hC hM, ← EReal.coe_mul, ← EReal.coe_one,
    div_real _ (mul_ne_zero (total_pos a d M _ _).ne' (total_pos a d M _ _).ne'), ← EReal.coe_mul, ← EReal.coe_mul]

include hA hC hD in
theorem ds_at (h : Fin 8) (i j : Fin 8208) : ds A C D (ix3 h i j) = ((dscore a d g h.val i.val j.val : ℝ) : EReal) := by
  obtain ⟨M, hM⟩ := mx_at hA hC h i
  have hw : IntOp.cmpi CmpIPredicate.sle (BitVec.ofNat 32 j.val) (BitVec.ofNat 32 i.val)
      = BitVec.ofBool (decide (j.val ≤ i.val)) := by word_cmp
  pointwise [ds, msk]
  rw [hw, select_decide, dp_at hA hD, ls_at hA hC hM, cor_at hA hC hD hM, ex_at hA hC hM, div_real _ (total_pos a d M _ _).ne',
    ← EReal.coe_add, ← EReal.coe_mul, dscore_eq]
  split
  · rfl
  · rename_i hj
    unfold dscore
    rw [prob_zero a d hj, zero_mul, EReal.coe_zero]

include hA hC hD in
/-- The gradient of the queries: zero in the padding. -/
theorem outQ_at (i : Fin 8320) (k : Fin 1024) : outQ A C D (ix2 i k) = ((if 112 ≤ i.val then
    ∑ j : Fin 8208, dscore a d g (k.val / 128) (i.val - 112) j.val * scale * a (112 + j.val) (1024 + (k.val / 128 * 128 + k.val % 128))
    else 0 : ℝ) : EReal) := by
  pointwise [outQ]
  by_cases hi : 112 ≤ i.val
  · rw [dif_pos ⟨hi, by omega⟩, if_pos hi, scale_eq]
    exact dot_coe (fun j => by rw [ds_at hA hC hD, ← EReal.coe_mul]) (fun j => hk_at hA _ j _)
  · rw [dif_neg (fun h => hi h.1), if_neg hi]
    exact sitofp_zero

include hA hC hD in
/-- The gradient of the keys. -/
theorem outK_at (i : Fin 8320) (k : Fin 1024) : outK A C D (ix2 i k) = ((if 112 ≤ i.val then
    ∑ j : Fin 8208, dscore a d g (k.val / 128) j.val (i.val - 112) * scale * a (112 + j.val) (k.val / 128 * 128 + k.val % 128)
    else 0 : ℝ) : EReal) := by
  pointwise [outK]
  by_cases hi : 112 ≤ i.val
  · rw [dif_pos ⟨hi, by omega⟩, if_pos hi, scale_eq]
    exact dot_coe (fun j => by rw [ds_at hA hC hD, ← EReal.coe_mul]) (fun j => hq_at hA _ j _)
  · rw [dif_neg (fun h => hi h.1), if_neg hi]
    exact sitofp_zero

include hA hC hD in
/-- The gradient of the values. -/
theorem outV_at (i : Fin 8320) (k : Fin 1024) : outV A C D (ix2 i k) = ((if 112 ≤ i.val then
    ∑ j : Fin 8208, g j.val (k.val / 128 * 128 + k.val % 128) * prob a d (k.val / 128) j.val (i.val - 112)
    else 0 : ℝ) : EReal) := by
  pointwise [outV]
  by_cases hi : 112 ≤ i.val
  · rw [dif_pos ⟨hi, by omega⟩, if_pos hi]
    exact dot_coe (fun j => hd_at hD _ j _) (fun j => pr_at hA hC _ j _)
  · rw [dif_neg (fun h => hi h.1), if_neg hi]
    exact sitofp_zero

include hA hC hD in
/-- The gradient of the accumulated decay: what a position gives as a query sums to zero. -/
theorem outC_at (h : Fin 8) (i : Fin 8320) : outC A C D (ix3 h 0 i) = ((if 112 ≤ i.val then
    -∑ j : Fin 8208, dscore a d g h.val j.val (i.val - 112) else 0 : ℝ) : EReal) := by
  pointwise [outC]
  by_cases hi : 112 ≤ i.val
  · rw [dif_pos ⟨hi, by omega⟩, if_pos hi, Fin.sum_univ_one, Fin.sum_univ_one, ← Finset.sum_neg_distrib,
      sum_coe (fun j => ds_at hA hC hD h _ j), sum_dscore, EReal.coe_zero, add_zero]
    exact sum_coe fun j => by rw [ds_at hA hC hD, EReal.coe_neg]
  · rw [dif_neg (fun h => hi h.1), if_neg hi]
    exact sitofp_zero

end Cert.ReferenceIdeal.Read

end
-- ==== Proof.Pre.lean ====
/- The precondition read back: every entry of the three arguments is a real number. -/
module

public import proofs.«01_k».proof.Proof.Gen.Pre_finite
public import Idealize.ShloMosaic.Lib.ReduceAll
public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.Pre_finite.Read

open Cert.Pre_finite Cert.Pre_finite.Gen

theorem inf_eq : Ideal.ofBits .f32 0x7F800000#32 = (⊤ : EReal) := by
  simp [Ideal.ofBits, Ideal.ieee]

/-- What is less than infinity in size is a real. -/
theorem real_of_abs_lt (x : EReal) (h : Ideal.cmp .olt (max x (-x)) (Ideal.ofBits .f32 0x7F800000#32) = 1#1) :
    ((x.toReal : ℝ) : EReal) = x := by
  rw [inf_eq] at h
  have hlt : max x (-x) < ⊤ := by
    by_contra hn
    simp [Ideal.cmp, hn] at h
  refine EReal.coe_toReal (ne_of_lt (lt_of_le_of_lt (le_max_left _ _) hlt)) fun hb => ?_
  rw [hb] at hlt
  simp at hlt

instance : Subsingleton S_.Idx := ⟨fun i j => funext fun a => a.elim0⟩

variable {A : FVec Ideal S8320x15360 .bf16} {C : FVec Ideal S8x8320 .f32} {D : FVec Ideal S8208x1024 .bf16}
  (h : Cert.Pre_finite.fn (F := Ideal) A C D = fun _ => 1#1)

include h

theorem parts :
    (∀ i, Ideal.cmp .olt (max (A i) (-A i)) (Ideal.ofBits .f32 0x7F800000#32) = 1#1)
    ∧ (∀ i, Ideal.cmp .olt (max (C i) (-C i)) (Ideal.ofBits .f32 0x7F800000#32) = 1#1)
    ∧ (∀ i, Ideal.cmp .olt (max (D i) (-D i)) (Ideal.ofBits .f32 0x7F800000#32) = 1#1) := by
  have e := congrFun h (Shape.Idx.first h_S_)
  obtain ⟨e1, e2⟩ := IntOp.andi_eq_one.1 e
  obtain ⟨e3, e4⟩ := IntOp.andi_eq_one.1 e1
  exact ⟨fun i => Host.reduce_andi_all _ _ _ _ _ e3 i, fun i => Host.reduce_andi_all _ _ _ _ _ e4 i,
    fun i => Host.reduce_andi_all _ _ _ _ _ e2 i⟩

/-- The three arguments as tables of reals. -/
theorem tables : ∃ a d g : ℕ → ℕ → ℝ,
    (∀ (r : Fin 8320) (k : Fin 15360), A (ix2 r k) = ((a r.val k.val : ℝ) : EReal))
    ∧ (∀ (r : Fin 8) (k : Fin 8320), C (ix2 r k) = ((d r.val k.val : ℝ) : EReal))
    ∧ (∀ (r : Fin 8208) (k : Fin 1024), D (ix2 r k) = ((g r.val k.val : ℝ) : EReal)) := by
  have table {p q : ℕ} (f : Fin p → Fin q → EReal) (hf : ∀ r k, (((f r k).toReal : ℝ) : EReal) = f r k) :
      ∃ b : ℕ → ℕ → ℝ, ∀ r k, f r k = ((b r.val k.val : ℝ) : EReal) := by
    refine ⟨fun r k => if hh : r < p ∧ k < q then (f ⟨r, hh.1⟩ ⟨k, hh.2⟩).toReal else 0, fun r k => ?_⟩
    have e : (if hh : r.val < p ∧ k.val < q then (f ⟨r.val, hh.1⟩ ⟨k.val, hh.2⟩).toReal else 0) = (f r k).toReal :=
      dif_pos ⟨r.isLt, k.isLt⟩
    exact (hf r k).symm.trans (congrArg ((↑) : ℝ → EReal) e.symm)
  obtain ⟨hA, hC, hD⟩ := parts h
  obtain ⟨a, ha⟩ := table (fun (r : Fin 8320) (k : Fin 15360) => A (ix2 r k)) fun r k => real_of_abs_lt _ (hA _)
  obtain ⟨d, hd⟩ := table (fun (r : Fin 8) (k : Fin 8320) => C (ix2 r k)) fun r k => real_of_abs_lt _ (hC _)
  obtain ⟨g, hg⟩ := table (fun (r : Fin 8208) (k : Fin 1024) => D (ix2 r k)) fun r k => real_of_abs_lt _ (hD _)
  exact ⟨a, d, g, ha, hd, hg⟩

end Cert.Pre_finite.Read

end
-- ==== Proof.Payload.lean ====
/- The arithmetic of one block of the gradient of the forgetting attention, over the reals. -/
module
public import proofs.«01_k».proof.Proof.Gen.KernelIdeal
public import proofs.«01_k».proof.Proof.Gen.KernelIdeal.Skeleton
public import proofs.«01_k».proof.Proof.Real
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Payload

open Cert.KernelIdeal Cert.KernelIdeal.Gen Cert.Fox

/-- The bias of a key that lies in the padding. -/
theorem pad_eq : (Named.named κ "pad" 0x7149F2CA#32 : Ideal .f32) = (⊤ : EReal) := rfl

/-- The score of a key after the query. -/
theorem mask_eq : (Named.named κ "mask" 0xF149F2CA#32 : Ideal .f32) = (⊥ : EReal) := rfl

/-- The probabilities of a block below the diagonal. -/
theorem pay11_real {j : ℕ} (hj : j < 13) (q k : Vec Ideal S640x128 .bf16) (ck : Vec Ideal S1x1x640 .f32)
    (cq : Vec Ideal S1x1x1 .f32) (lse : Vec Ideal S1x640x1 .f32) (Q K : Fin 640 → Fin 128 → ℝ) (C T : Fin 640 → ℝ) (c0 : ℝ)
    (hq : ∀ r d, q (ix2 r d) = ((Q r d : ℝ) : EReal)) (hk : ∀ r d, k (ix2 r d) = ((K r d : ℝ) : EReal))
    (hc : ∀ x, ck (ix3 0 0 x) = ((C x : ℝ) : EReal)) (h0 : cq (ix3 0 0 0) = ((c0 : ℝ) : EReal))
    (hl : ∀ r, lse (ix3 0 r 0) = ((T r : ℝ) : EReal)) (r x : Fin 640) :
    k0_pay11 (F := Ideal) (BitVec.ofNat 32 j) q k ck cq lse (ix2 r x)
      = ((if 112 ≤ 640 * j + x.val then Real.exp ((∑ d, Q r d * K x d) * scale - (C x - c0) - T r) else 0 : ℝ) : EReal) := by
  pointwise [k0_pay11]
  rw [pad_eq, dot_coe (hq r) (hk x), scale_eq, hc, h0, hl, ← EReal.coe_sub, ← EReal.coe_mul]
  have hw : IntOp.cmpi CmpIPredicate.sge (IntOp.addi (Scalar.muli (BitVec.ofNat 32 j) 640#32) (BitVec.ofNat 32 x.val)) 112#32
      = BitVec.ofBool (decide (112 ≤ 640 * j + x.val)) := by
    have e : IntOp.addi (Scalar.muli (BitVec.ofNat 32 j) 640#32) (BitVec.ofNat 32 x.val) = BitVec.ofNat 32 (640 * j + x.val) := by
      show BitVec.ofNat 32 j * BitVec.ofNat 32 640 + BitVec.ofNat 32 x.val = _
      rw [← BitVec.ofNat_mul, ← BitVec.ofNat_add, mul_comm]
    rw [e]
    word_cmp
  rw [hw]
  rw [select_decide, sub_if, exp_if]

/-- The probabilities of a block on the diagonal. -/
theorem pay19_real {j : ℕ} (hj : j < 13) (q k : Vec Ideal S640x128 .bf16) (ck : Vec Ideal S1x1x640 .f32)
    (cq : Vec Ideal S1x1x1 .f32) (lse : Vec Ideal S1x640x1 .f32) (Q K : Fin 640 → Fin 128 → ℝ) (C T : Fin 640 → ℝ) (c0 : ℝ)
    (hq : ∀ r d, q (ix2 r d) = ((Q r d : ℝ) : EReal)) (hk : ∀ r d, k (ix2 r d) = ((K r d : ℝ) : EReal))
    (hc : ∀ x, ck (ix3 0 0 x) = ((C x : ℝ) : EReal)) (h0 : cq (ix3 0 0 0) = ((c0 : ℝ) : EReal))
    (hl : ∀ r, lse (ix3 0 r 0) = ((T r : ℝ) : EReal)) (r x : Fin 640) :
    k0_pay19 (F := Ideal) (BitVec.ofNat 32 j) q k ck cq lse (ix2 r x)
      = ((if x.val ≤ r.val then if 112 ≤ 640 * j + x.val then
          Real.exp ((∑ d, Q r d * K x d) * scale - (C x - c0) - T r) else 0 else 0 : ℝ) : EReal) := by
  have h := pay11_real hj q k ck cq lse Q K C T c0 hq hk hc h0 hl r x
  have e : k0_pay19 (F := Ideal) (BitVec.ofNat 32 j) q k ck cq lse (ix2 r x)
      = if x.val ≤ r.val then k0_pay11 (F := Ideal) (BitVec.ofNat 32 j) q k ck cq lse (ix2 r x) else (0 : EReal) := by
    pointwise [k0_pay19, k0_pay11]
    have hw : IntOp.cmpi CmpIPredicate.sle (BitVec.ofNat 32 x.val) (BitVec.ofNat 32 r.val)
        = BitVec.ofBool (decide (x.val ≤ r.val)) := by word_cmp
    rw [mask_eq, hl, hw]
    by_cases hx : x.val ≤ r.val
    · rw [if_pos hx]; simp [hx, Scalar.select]
    · rw [if_neg hx]; simp [hx, Scalar.select, EReal.bot_sub]
  rw [e]
  split
  · exact h
  · exact EReal.coe_zero.symm

/-- The gradient of the probabilities, less the row's mean of it. -/
theorem pay12_real (g v : Vec Ideal S640x128 .bf16) (dl : Vec Ideal S1x640x1 .f32) (G V : Fin 640 → Fin 128 → ℝ) (D : Fin 640 → ℝ)
    (hg : ∀ r d, g (ix2 r d) = ((G r d : ℝ) : EReal)) (hv : ∀ r d, v (ix2 r d) = ((V r d : ℝ) : EReal))
    (hd : ∀ r, dl (ix3 0 r 0) = ((D r : ℝ) : EReal)) (r x : Fin 640) :
    k0_pay12 (F := Ideal) g v dl (ix2 r x) = ((∑ d, G r d * V x d - D r : ℝ) : EReal) := by
  pointwise [k0_pay12]
  rw [dot_coe (hg r) (hv x), hd, EReal.coe_sub]

variable {p w : FVec Ideal S640x640 .f32} {P W : Fin 640 → Fin 640 → ℝ}
  (hp : ∀ r x, p (ix2 r x) = ((P r x : ℝ) : EReal)) (hw : ∀ r x, w (ix2 r x) = ((W r x : ℝ) : EReal))

include hp in
/-- What one block adds to the gradient of the values. -/
theorem pay15_real (a : Vec Ideal S640x128 .f32) (g : Vec Ideal S640x128 .bf16) (G : Fin 640 → Fin 128 → ℝ)
    (hg : ∀ r d, g (ix2 r d) = ((G r d : ℝ) : EReal)) (x : Fin 640) (d : Fin 128) :
    k0_pay15 (F := Ideal) p a g (ix2 x d) = a (ix2 x d) + ((∑ r, P r x * G r d : ℝ) : EReal) := by
  pointwise [k0_pay15]
  exact congrArg (a (ix2 x d) + ·) (dot_coe (fun r => hp r x) (fun r => hg r d))

include hp hw in
/-- What one block adds to the gradient of the keys. -/
theorem pay16_real (a : Vec Ideal S640x128 .f32) (q : Vec Ideal S640x128 .bf16) (Q : Fin 640 → Fin 128 → ℝ)
    (hq : ∀ r d, q (ix2 r d) = ((Q r d : ℝ) : EReal)) (x : Fin 640) (d : Fin 128) :
    k0_pay16 (F := Ideal) p w a q (ix2 x d) = a (ix2 x d) + ((∑ r, P r x * W r x * Q r d : ℝ) : EReal) := by
  pointwise [k0_pay16, k0_pay14, k0_pay13]
  exact congrArg (a (ix2 x d) + ·) (dot_coe (fun r => by rw [hp, hw, EReal.coe_mul]) (fun r => hq r d))

include hp hw in
/-- What one block takes from the gradient of the key's decay. -/
theorem pay17_real (a : Vec Ideal S1x640 .f32) (x : Fin 640) :
    k0_pay17 (F := Ideal) p w a (ix2 0 x) = a (ix2 0 x) + ((-∑ r, P r x * W r x : ℝ) : EReal) := by
  pointwise [k0_pay17, k0_pay13]
  rw [EReal.coe_neg, ← sub_eq_add_neg]
  exact congrArg (a (ix2 0 x) - ·) (dot_coe (fun r => hp r x) (fun r => hw r x))

include hp hw in
/-- What one block adds to the gradient of the queries. -/
theorem pay18_real (a : Vec Ideal S640x128 .f32) (k : Vec Ideal S640x128 .bf16) (K : Fin 640 → Fin 128 → ℝ)
    (hk : ∀ r d, k (ix2 r d) = ((K r d : ℝ) : EReal)) (r : Fin 640) (d : Fin 128) :
    k0_pay18 (F := Ideal) p w a k (ix2 r d) = a (ix2 r d) + ((∑ x, P r x * W r x * K x d : ℝ) : EReal) := by
  pointwise [k0_pay18, k0_pay14, k0_pay13]
  exact congrArg (a (ix2 r d) + ·) (dot_coe (fun x => by rw [hp, hw, EReal.coe_mul]) (fun x => hk x d))

/-! On the diagonal the same sums are taken of that block's probabilities. -/

theorem pay20_sub (g v : Vec Ideal S640x128 .bf16) (dl : Vec Ideal S1x640x1 .f32) (p : FVec Ideal S640x640 .f32) (r x : Fin 640) :
    k0_pay21 (F := Ideal) p (k0_pay20 g v) dl (ix2 r x) = k0_pay13 (F := Ideal) p (k0_pay12 g v dl) (ix2 r x) := by
  pointwise [k0_pay21, k0_pay20, k0_pay13, k0_pay12]

theorem pay21_eq (g v : Vec Ideal S640x128 .bf16) (dl : Vec Ideal S1x640x1 .f32) (p : FVec Ideal S640x640 .f32) :
    k0_pay21 (F := Ideal) p (k0_pay20 g v) dl = k0_pay13 (F := Ideal) p (k0_pay12 g v dl) :=
  funext fun i => by rw [eq_ix2 i]; exact pay20_sub g v dl p (i 0) (i 1)

theorem pay23_eq (p : FVec Ideal S640x640 .f32) (a : Vec Ideal S640x128 .f32) (g : Vec Ideal S640x128 .bf16) :
    k0_pay23 (F := Ideal) p a g = k0_pay15 p a g := rfl

theorem pay24_eq (g v : Vec Ideal S640x128 .bf16) (dl : Vec Ideal S1x640x1 .f32) (p : FVec Ideal S640x640 .f32)
    (a : Vec Ideal S640x128 .f32) (q : Vec Ideal S640x128 .bf16) :
    k0_pay24 (F := Ideal) p (k0_pay20 g v) dl a q = k0_pay16 p (k0_pay12 g v dl) a q := by
  unfold k0_pay24 k0_pay22 k0_pay16 k0_pay14
  rw [pay21_eq]

theorem pay25_eq (g v : Vec Ideal S640x128 .bf16) (dl : Vec Ideal S1x640x1 .f32) (p : FVec Ideal S640x640 .f32)
    (a : Vec Ideal S1x640 .f32) :
    k0_pay25 (F := Ideal) p (k0_pay20 g v) dl a = k0_pay17 p (k0_pay12 g v dl) a := by
  unfold k0_pay25 k0_pay17
  rw [pay21_eq]

theorem pay6_eq (g v : Vec Ideal S640x128 .bf16) (dl : Vec Ideal S1x640x1 .f32) (p : FVec Ideal S640x640 .f32)
    (a : Vec Ideal S640x128 .f32) (k : Vec Ideal S640x128 .bf16) :
    k0_pay6 (F := Ideal) (k0_pay22 p (k0_pay20 g v) dl) a k = k0_pay5 (k0_pay18 p (k0_pay12 g v dl) a k) := by
  unfold k0_pay5 k0_pay6 k0_pay22 k0_pay18 k0_pay14
  rw [pay21_eq]

theorem pay5_at (a : FVec Ideal S640x128 .f32) (x : Fin 640) (d : Fin 128) :
    k0_pay5 (F := Ideal) a (ix2 x d) = a (ix2 x d) := by
  pointwise [k0_pay5]

/-! The zero fills and the final scalings. -/

theorem pay1_at (r : Fin 8320) (d : Fin 128) : k0_pay1 (F := Ideal) (ix2 r d) = (0 : EReal) := by pointwise [k0_pay1]
theorem pay2_at (r : Fin 640) (d : Fin 128) : k0_pay2 (F := Ideal) (ix2 r d) = (0 : EReal) := by pointwise [k0_pay2]
theorem pay3_at (r : Fin 640) (d : Fin 128) : k0_pay3 (F := Ideal) (ix2 r d) = (0 : EReal) := by pointwise [k0_pay3]
theorem pay4_at (x : Fin 640) : k0_pay4 (F := Ideal) (ix2 0 x) = (0 : EReal) := by pointwise [k0_pay4]

theorem pay7_at (a : Vec Ideal S640x128 .f32) (x : Fin 640) (d : Fin 128) :
    k0_pay7 (F := Ideal) a (ix2 x d) = a (ix2 x d) * ((scale : ℝ) : EReal) := by
  pointwise [k0_pay7]
  rw [scale_eq]

theorem pay8_at (a : Vec Ideal S640x128 .f32) (x : Fin 640) (d : Fin 128) :
    k0_pay8 (F := Ideal) a (ix2 x d) = a (ix2 x d) := by
  pointwise [k0_pay8]

theorem pay9_at (a : Vec Ideal S1x640 .f32) (x : Fin 640) :
    k0_pay9 (F := Ideal) a (ix3 0 0 x) = a (ix2 0 x) := by
  pointwise [k0_pay9]

theorem pay10_at (a : Vec Ideal S8320x128 .f32) (r : Fin 8320) (d : Fin 128) :
    k0_pay10 (F := Ideal) a (ix2 r d) = a (ix2 r d) * ((scale : ℝ) : EReal) := by
  pointwise [k0_pay10]
  rw [scale_eq]

end Cert.KernelIdeal.Payload

end
-- ==== Proof.Fold.lean ====
/- What the gradient kernel accumulates: each of its four sums, from the point that clears it to the point that writes it. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Payload
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Payload Cert.Fox

/-! ## The points: point `169 h + 13 j + i` is head `h`, key block `j`, query block `i` -/

theorem coord1 : ∀ t : Fin grid0.N, (grid0.coords t 1).val = t.val / 13 % 13 := by decide +kernel
theorem coord2 : ∀ t : Fin grid0.N, (grid0.coords t 2).val = t.val % 13 := by decide +kernel

theorem off1_eq (t : Fin grid0.N) : k0_off1 (grid0.coords t) = ![640 * (t.val % 13), 0] := by
  have h : ∀ t : Fin grid0.N, k0_off1 (grid0.coords t) 0 = 640 * (t.val % 13) := by decide +kernel
  funext a
  match a with
  | 0 => exact h t
  | 1 => rfl

theorem off2_eq (t : Fin grid0.N) : k0_off2 (grid0.coords t) = ![640 * (t.val % 13), 0] := by
  have h : ∀ t : Fin grid0.N, k0_off2 (grid0.coords t) 0 = 640 * (t.val % 13) := by decide +kernel
  funext a
  match a with
  | 0 => exact h t
  | 1 => rfl

variable (m : (ℓ : Loc nD τ sig) → Buf (Elt Ideal) ℓ) (c : Dev nD)

/-- The arrays' blocks over the reals, by head and row of the padded sequence. -/
structure Blocks (Q K V G : ℕ → ℕ → ℕ → ℝ) (C T M : ℕ → ℕ → ℝ) : Prop where
  q : ∀ (t : Fin cfg0.N) (r : Fin 640) (d : Fin 128), iblk m c 0 t (ix2 r d)
    = ((Q (t.val / 169) (640 * max (t.val / 13 % 13) (t.val % 13) + r.val) d.val : ℝ) : EReal)
  k : ∀ (t : Fin cfg0.N) (r : Fin 640) (d : Fin 128), iblk m c 1 t (ix2 r d)
    = ((K (t.val / 169) (640 * (t.val / 13 % 13) + r.val) d.val : ℝ) : EReal)
  v : ∀ (t : Fin cfg0.N) (r : Fin 640) (d : Fin 128), iblk m c 2 t (ix2 r d)
    = ((V (t.val / 169) (640 * (t.val / 13 % 13) + r.val) d.val : ℝ) : EReal)
  cq : ∀ (t : Fin cfg0.N) (r : Fin 640), iblk m c 3 t (ix3 0 r 0)
    = ((C (t.val / 169) (640 * max (t.val / 13 % 13) (t.val % 13) + r.val) : ℝ) : EReal)
  ck : ∀ (t : Fin cfg0.N) (x : Fin 640), iblk m c 4 t (ix3 0 0 x)
    = ((C (t.val / 169) (640 * (t.val / 13 % 13) + x.val) : ℝ) : EReal)
  lse : ∀ (t : Fin cfg0.N) (r : Fin 640), iblk m c 5 t (ix3 0 r 0)
    = ((T (t.val / 169) (640 * max (t.val / 13 % 13) (t.val % 13) + r.val) : ℝ) : EReal)
  mean : ∀ (t : Fin cfg0.N) (r : Fin 640), iblk m c 6 t (ix3 0 r 0)
    = ((M (t.val / 169) (640 * max (t.val / 13 % 13) (t.val % 13) + r.val) : ℝ) : EReal)
  g : ∀ (t : Fin cfg0.N) (r : Fin 640) (d : Fin 128), iblk m c 7 t (ix2 r d)
    = ((G (t.val / 169) (640 * max (t.val / 13 % 13) (t.val % 13) + r.val) d.val : ℝ) : EReal)

section Terms

variable (Q K V G : ℕ → ℕ → ℕ → ℝ) (C T M : ℕ → ℕ → ℝ)

/-- The probability of a key, from the row's saved logarithm. -/
def kprob (h i j : ℕ) : ℝ :=
  if j ≤ i ∧ 112 ≤ j then
    Real.exp ((∑ d : Fin 128, Q h i d.val * K h j d.val) * scale - (C h j - C h (640 * (i / 640))) - T h i) else 0

/-- Its gradient less the row's mean. -/
def kdev (h i j : ℕ) : ℝ := ∑ d : Fin 128, G h i d.val * V h j d.val - M h i

/-- What point `n` adds to the gradient of the queries: only rows of its query block. -/
def termQ (n : ℕ) (y : Fin 8320) (d : Fin 128) : ℝ :=
  if y.val / 640 = n % 13 then
    ∑ x : Fin 640, kprob Q K C T (n / 169) y.val (640 * (n / 13 % 13) + x.val)
      * kdev V G M (n / 169) y.val (640 * (n / 13 % 13) + x.val) * K (n / 169) (640 * (n / 13 % 13) + x.val) d.val else 0

def termK (n : ℕ) (x : Fin 640) (d : Fin 128) : ℝ :=
  ∑ r : Fin 640, kprob Q K C T (n / 169) (640 * (n % 13) + r.val) (640 * (n / 13 % 13) + x.val)
    * kdev V G M (n / 169) (640 * (n % 13) + r.val) (640 * (n / 13 % 13) + x.val) * Q (n / 169) (640 * (n % 13) + r.val) d.val

def termV (n : ℕ) (x : Fin 640) (d : Fin 128) : ℝ :=
  ∑ r : Fin 640, kprob Q K C T (n / 169) (640 * (n % 13) + r.val) (640 * (n / 13 % 13) + x.val)
    * G (n / 169) (640 * (n % 13) + r.val) d.val

def termC (n : ℕ) (x : Fin 640) : ℝ :=
  -∑ r : Fin 640, kprob Q K C T (n / 169) (640 * (n % 13) + r.val) (640 * (n / 13 % 13) + x.val)
    * kdev V G M (n / 169) (640 * (n % 13) + r.val) (640 * (n / 13 % 13) + x.val)

/-! A point above the diagonal adds nothing. -/

theorem kprob_above {n r x : ℕ} (hr : r < 640) (h : n % 13 < n / 13 % 13) :
    kprob Q K C T (n / 169) (640 * (n % 13) + r) (640 * (n / 13 % 13) + x) = 0 :=
  if_neg fun hh => by have := hh.1; omega

theorem termQ_above {n : ℕ} (h : n % 13 < n / 13 % 13) (y : Fin 8320) (d : Fin 128) : termQ Q K V G C T M n y d = 0 := by
  unfold termQ
  split
  · rename_i hy
    refine Finset.sum_eq_zero fun x _ => ?_
    have e : kprob Q K C T (n / 169) y.val (640 * (n / 13 % 13) + x.val) = 0 :=
      if_neg fun hh => by have := hh.1; omega
    rw [e, zero_mul, zero_mul]
  · rfl

theorem termK_above {n : ℕ} (h : n % 13 < n / 13 % 13) (x : Fin 640) (d : Fin 128) : termK Q K V G C T M n x d = 0 :=
  Finset.sum_eq_zero fun r _ => by rw [kprob_above Q K C T r.isLt h, zero_mul, zero_mul]

theorem termV_above {n : ℕ} (h : n % 13 < n / 13 % 13) (x : Fin 640) (d : Fin 128) : termV Q K G C T n x d = 0 :=
  Finset.sum_eq_zero fun r _ => by rw [kprob_above Q K C T r.isLt h, zero_mul]

theorem termC_above {n : ℕ} (h : n % 13 < n / 13 % 13) (x : Fin 640) : termC Q K V G C T M n x = 0 := by
  unfold termC
  rw [Finset.sum_eq_zero fun r _ => by rw [kprob_above Q K C T r.isLt h, zero_mul], neg_zero]

end Terms

variable {m c} {Q K V G : ℕ → ℕ → ℕ → ℝ} {C T M : ℕ → ℕ → ℝ} (hB : Blocks m c Q K V G C T M)

include hB

/-! ## The blocks of a point on or below the diagonal -/

theorem q_at {t : Fin cfg0.N} (h : t.val / 13 % 13 ≤ t.val % 13) (r : Fin 640) (d : Fin 128) :
    iblk m c 0 t (ix2 r d) = ((Q (t.val / 169) (640 * (t.val % 13) + r.val) d.val : ℝ) : EReal) := by
  rw [hB.q, max_eq_right h]

theorem g_at {t : Fin cfg0.N} (h : t.val / 13 % 13 ≤ t.val % 13) (r : Fin 640) (d : Fin 128) :
    iblk m c 7 t (ix2 r d) = ((G (t.val / 169) (640 * (t.val % 13) + r.val) d.val : ℝ) : EReal) := by
  rw [hB.g, max_eq_right h]

theorem w_at {t : Fin cfg0.N} (h : t.val / 13 % 13 ≤ t.val % 13) (r x : Fin 640) :
    k0_pay12 (F := Ideal) (iblk m c 7 t) (iblk m c 2 t) (iblk m c 6 t) (ix2 r x)
      = ((kdev V G M (t.val / 169) (640 * (t.val % 13) + r.val) (640 * (t.val / 13 % 13) + x.val) : ℝ) : EReal) :=
  pay12_real _ _ _ (fun r d => G (t.val / 169) (640 * (t.val % 13) + r.val) d.val)
    (fun x d => V (t.val / 169) (640 * (t.val / 13 % 13) + x.val) d.val) (fun r => M (t.val / 169) (640 * (t.val % 13) + r.val))
    (g_at hB h) (hB.v t) (fun r => by rw [hB.mean, max_eq_right h]) r x

theorem p_below {t : Fin cfg0.N} (h : t.val / 13 % 13 + 1 ≤ t.val % 13) (cq : Vec Ideal S1x1x1 .f32)
    (hcq : cq (ix3 0 0 0) = iblk m c 3 t (ix3 0 0 0)) (r x : Fin 640) :
    k0_pay11 (F := Ideal) (BitVec.ofNat 32 (grid0.coords t 1).val) (iblk m c 0 t) (iblk m c 1 t) (iblk m c 4 t) cq
        (iblk m c 5 t) (ix2 r x)
      = ((kprob Q K C T (t.val / 169) (640 * (t.val % 13) + r.val) (640 * (t.val / 13 % 13) + x.val) : ℝ) : EReal) := by
  have hm : max (t.val / 13 % 13) (t.val % 13) = t.val % 13 := max_eq_right (by omega)
  rw [coord1]
  refine (pay11_real (j := t.val / 13 % 13) (by omega) _ _ _ cq _
    (fun r d => Q (t.val / 169) (640 * (t.val % 13) + r.val) d.val) (fun x d => K (t.val / 169) (640 * (t.val / 13 % 13) + x.val) d.val)
    (fun x => C (t.val / 169) (640 * (t.val / 13 % 13) + x.val)) (fun r => T (t.val / 169) (640 * (t.val % 13) + r.val))
    (C (t.val / 169) (640 * (t.val % 13)))
    (q_at hB (by omega)) (hB.k t) (hB.ck t) (hcq.trans ((hB.cq t 0).trans (by rw [hm]; rfl)))
    (fun r => by rw [hB.lse, hm]) r x).trans (congrArg _ ?_)
  have e : (640 * (t.val % 13) + r.val) / 640 = t.val % 13 := by omega
  unfold kprob
  rw [e]
  exact if_congr ⟨fun h => ⟨by omega, h⟩, fun h => h.2⟩ rfl rfl

theorem p_diag {t : Fin cfg0.N} (h : t.val / 13 % 13 = t.val % 13) (cq : Vec Ideal S1x1x1 .f32)
    (hcq : cq (ix3 0 0 0) = iblk m c 3 t (ix3 0 0 0)) (r x : Fin 640) :
    k0_pay19 (F := Ideal) (BitVec.ofNat 32 (grid0.coords t 1).val) (iblk m c 0 t) (iblk m c 1 t) (iblk m c 4 t) cq
        (iblk m c 5 t) (ix2 r x)
      = ((kprob Q K C T (t.val / 169) (640 * (t.val % 13) + r.val) (640 * (t.val / 13 % 13) + x.val) : ℝ) : EReal) := by
  have hm : max (t.val / 13 % 13) (t.val % 13) = t.val % 13 := max_eq_right (by omega)
  rw [coord1]
  refine (pay19_real (j := t.val / 13 % 13) (by omega) _ _ _ cq _
    (fun r d => Q (t.val / 169) (640 * (t.val % 13) + r.val) d.val) (fun x d => K (t.val / 169) (640 * (t.val / 13 % 13) + x.val) d.val)
    (fun x => C (t.val / 169) (640 * (t.val / 13 % 13) + x.val)) (fun r => T (t.val / 169) (640 * (t.val % 13) + r.val))
    (C (t.val / 169) (640 * (t.val % 13)))
    (q_at hB (by omega)) (hB.k t) (hB.ck t) (hcq.trans ((hB.cq t 0).trans (by rw [hm]; rfl)))
    (fun r => by rw [hB.lse, hm]) r x).trans (congrArg _ ?_)
  have e : (640 * (t.val % 13) + r.val) / 640 = t.val % 13 := by omega
  unfold kprob
  rw [e, ← ite_and]
  exact if_congr (and_congr ⟨fun h => by omega, fun h => by omega⟩ Iff.rfl) rfl rfl

/-! ## The gradient of the keys -/

theorem dk_reset (t : Fin cfg0.N) (ht : t.val % 13 = 0) (i : Fin 640 × Fin 128) :
    (outsAt0 m c t.val t.isLt).2.2.2.2.2.1 (ix2 i.1 i.2) = (0 : EReal) + ((termK Q K V G C T M t.val i.1 i.2 : ℝ) : EReal) := by
  by_cases h0 : t.val % 169 = 0
  · have h3 : t.val / 13 % 13 = t.val % 13 := by omega
    rw [outsAt0_A m c t h0 ht (by omega) h3 (by omega) (by omega)]; frame_out
    rw [pay24_eq, pay16_real (p_diag hB h3 _ (by pointwise)) (w_at hB h3.le) _ _ _ (q_at hB h3.le), pay2_at]
    rfl
  · have h3 : t.val % 13 < t.val / 13 % 13 := by omega
    rw [outsAt0_D m c t h0 ht (by omega) (by omega) (by omega) (by omega)]; frame_out
    rw [pay2_at, termK_above Q K V G C T M h3, EReal.coe_zero, add_zero]

theorem dk_step (t : Fin cfg0.N) (ht : ¬t.val % 13 = 0) (i : Fin 640 × Fin 128) :
    (outsAt0 m c t.val t.isLt).2.2.2.2.2.1 (ix2 i.1 i.2)
      = (outsAt0 m c (t.val - 1) (Nat.lt_of_le_of_lt (Nat.sub_le _ _) t.isLt)).2.2.2.2.2.1 (ix2 i.1 i.2)
        + ((termK Q K V G C T M t.val i.1 i.2 : ℝ) : EReal) := by
  rcases lt_trichotomy (t.val / 13 % 13) (t.val % 13) with h | h | h
  · by_cases h4 : t.val % 13 = 12
    · rw [outsAt0_C m c t (by omega) ht h (by omega) h4 (by omega)]; frame_out
      rw [read_unread_whole, pay16_real (p_below hB h _ (by pointwise)) (w_at hB h.le) _ _ _ (q_at hB h.le)]
      rfl
    · rw [outsAt0_B m c t (by omega) ht h (by omega) h4 (by omega)]; frame_out
      rw [read_unread_whole, pay16_real (p_below hB h _ (by pointwise)) (w_at hB h.le) _ _ _ (q_at hB h.le)]
      rfl
  · by_cases h4 : t.val % 13 = 12
    · rw [outsAt0_G m c t (by omega) ht (by omega) h h4 (by omega)]; frame_out
      rw [pay24_eq, read_unread_whole, pay16_real (p_diag hB h _ (by pointwise)) (w_at hB h.le) _ _ _ (q_at hB h.le)]
      rfl
    · rw [outsAt0_E m c t (by omega) ht (by omega) h h4 (by omega)]; frame_out
      rw [pay24_eq, read_unread_whole, pay16_real (p_diag hB h _ (by pointwise)) (w_at hB h.le) _ _ _ (q_at hB h.le)]
      rfl
  · rw [outsAt0_F m c t (by omega) ht (by omega) (by omega) (by omega) (by omega), termK_above Q K V G C T M h, EReal.coe_zero, add_zero]
    rfl

/-! ## The gradient of the values -/

theorem dv_reset (t : Fin cfg0.N) (ht : t.val % 13 = 0) (i : Fin 640 × Fin 128) :
    (outsAt0 m c t.val t.isLt).2.2.2.2.2.2.1 (ix2 i.1 i.2) = (0 : EReal) + ((termV Q K G C T t.val i.1 i.2 : ℝ) : EReal) := by
  by_cases h0 : t.val % 169 = 0
  · have h3 : t.val / 13 % 13 = t.val % 13 := by omega
    rw [outsAt0_A m c t h0 ht (by omega) h3 (by omega) (by omega)]; frame_out
    rw [pay23_eq, pay15_real (p_diag hB h3 _ (by pointwise)) _ _ _ (g_at hB h3.le), pay3_at]
    rfl
  · have h3 : t.val % 13 < t.val / 13 % 13 := by omega
    rw [outsAt0_D m c t h0 ht (by omega) (by omega) (by omega) (by omega)]; frame_out
    rw [pay3_at, termV_above Q K G C T h3, EReal.coe_zero, add_zero]

theorem dv_step (t : Fin cfg0.N) (ht : ¬t.val % 13 = 0) (i : Fin 640 × Fin 128) :
    (outsAt0 m c t.val t.isLt).2.2.2.2.2.2.1 (ix2 i.1 i.2)
      = (outsAt0 m c (t.val - 1) (Nat.lt_of_le_of_lt (Nat.sub_le _ _) t.isLt)).2.2.2.2.2.2.1 (ix2 i.1 i.2)
        + ((termV Q K G C T t.val i.1 i.2 : ℝ) : EReal) := by
  rcases lt_trichotomy (t.val / 13 % 13) (t.val % 13) with h | h | h
  · by_cases h4 : t.val % 13 = 12
    · rw [outsAt0_C m c t (by omega) ht h (by omega) h4 (by omega)]; frame_out
      rw [read_unread_whole, pay15_real (p_below hB h _ (by pointwise)) _ _ _ (g_at hB h.le)]
      rfl
    · rw [outsAt0_B m c t (by omega) ht h (by omega) h4 (by omega)]; frame_out
      rw [read_unread_whole, pay15_real (p_below hB h _ (by pointwise)) _ _ _ (g_at hB h.le)]
      rfl
  · by_cases h4 : t.val % 13 = 12
    · rw [outsAt0_G m c t (by omega) ht (by omega) h h4 (by omega)]; frame_out
      rw [pay23_eq, read_unread_whole, pay15_real (p_diag hB h _ (by pointwise)) _ _ _ (g_at hB h.le)]
      rfl
    · rw [outsAt0_E m c t (by omega) ht (by omega) h h4 (by omega)]; frame_out
      rw [pay23_eq, read_unread_whole, pay15_real (p_diag hB h _ (by pointwise)) _ _ _ (g_at hB h.le)]
      rfl
  · rw [outsAt0_F m c t (by omega) ht (by omega) (by omega) (by omega) (by omega), termV_above Q K G C T h, EReal.coe_zero, add_zero]
    rfl

/-! ## The gradient of the gate sums at the keys -/

theorem dc_reset (t : Fin cfg0.N) (ht : t.val % 13 = 0) (i : Fin 640) :
    (outsAt0 m c t.val t.isLt).2.2.2.2.2.2.2 (ix2 0 i) = (0 : EReal) + ((termC Q K V G C T M t.val i : ℝ) : EReal) := by
  by_cases h0 : t.val % 169 = 0
  · have h3 : t.val / 13 % 13 = t.val % 13 := by omega
    rw [outsAt0_A m c t h0 ht (by omega) h3 (by omega) (by omega)]; frame_out
    rw [pay25_eq, pay17_real (p_diag hB h3 _ (by pointwise)) (w_at hB h3.le), pay4_at]
    rfl
  · have h3 : t.val % 13 < t.val / 13 % 13 := by omega
    rw [outsAt0_D m c t h0 ht (by omega) (by omega) (by omega) (by omega)]; frame_out
    rw [pay4_at, termC_above Q K V G C T M h3, EReal.coe_zero, add_zero]

theorem dc_step (t : Fin cfg0.N) (ht : ¬t.val % 13 = 0) (i : Fin 640) :
    (outsAt0 m c t.val t.isLt).2.2.2.2.2.2.2 (ix2 0 i)
      = (outsAt0 m c (t.val - 1) (Nat.lt_of_le_of_lt (Nat.sub_le _ _) t.isLt)).2.2.2.2.2.2.2 (ix2 0 i)
        + ((termC Q K V G C T M t.val i : ℝ) : EReal) := by
  rcases lt_trichotomy (t.val / 13 % 13) (t.val % 13) with h | h | h
  · by_cases h4 : t.val % 13 = 12
    · rw [outsAt0_C m c t (by omega) ht h (by omega) h4 (by omega)]; frame_out
      rw [read_unread_whole, pay17_real (p_below hB h _ (by pointwise)) (w_at hB h.le)]
      rfl
    · rw [outsAt0_B m c t (by omega) ht h (by omega) h4 (by omega)]; frame_out
      rw [read_unread_whole, pay17_real (p_below hB h _ (by pointwise)) (w_at hB h.le)]
      rfl
  · by_cases h4 : t.val % 13 = 12
    · rw [outsAt0_G m c t (by omega) ht (by omega) h h4 (by omega)]; frame_out
      rw [pay25_eq, read_unread_whole, pay17_real (p_diag hB h _ (by pointwise)) (w_at hB h.le)]
      rfl
    · rw [outsAt0_E m c t (by omega) ht (by omega) h h4 (by omega)]; frame_out
      rw [pay25_eq, read_unread_whole, pay17_real (p_diag hB h _ (by pointwise)) (w_at hB h.le)]
      rfl
  · rw [outsAt0_F m c t (by omega) ht (by omega) (by omega) (by omega) (by omega), termC_above Q K V G C T M h, EReal.coe_zero, add_zero]
    rfl

/-! ## The gradient of the queries -/

omit hB in
/-- A row of the block just stored reads the store's row. -/
theorem rows_in {off : Fin 2 → ℕ} {o : ℕ} (f) (hoff : off = ![o, 0])
    (inb : ∀ a : Fin 2, off a + (![640, 128] : Fin 2 → ℕ) a ≤ S8320x128.size a) (w : S640x128.Idx → EReal) (L)
    (r : Fin 640) (d : Fin 128) {y : Fin 8320} (hy : y.val = o + r.val) :
    View.read (Elt Ideal) (View.whole cc0_scratch0) ((View.whole cc0_scratch0).writes (Elt Ideal) f
      (⟨Rect.unit (s := S8320x128) off ![640, 128] inb, w⟩ :: L)) (ix2 y d) = w (ix2 r d) :=
  View.read_writes_cons_rows_of_mem (View.whole cc0_scratch0) f inb w L (ix2 y d) (ix2 r d) hoff hy rfl

omit hB in
/-- Another row reads what was there. -/
theorem rows_out {off : Fin 2 → ℕ} {o : ℕ} (f) (hoff : off = ![o, 0])
    (inb : ∀ a : Fin 2, off a + (![640, 128] : Fin 2 → ℕ) a ≤ S8320x128.size a) (w : S640x128.Idx → EReal) (L)
    (d : Fin 128) {y : Fin 8320} (hy : y.val < o ∨ o + 640 ≤ y.val) :
    View.read (Elt Ideal) (View.whole cc0_scratch0) ((View.whole cc0_scratch0).writes (Elt Ideal) f
      (⟨Rect.unit (s := S8320x128) off ![640, 128] inb, w⟩ :: L)) (ix2 y d)
      = View.read (Elt Ideal) (View.whole cc0_scratch0) ((View.whole cc0_scratch0).writes (Elt Ideal) f L) (ix2 y d) :=
  View.read_writes_cons_rows_of_not_mem (View.whole cc0_scratch0) f inb w L (ix2 y d) hoff rfl hy

omit hB in
theorem ld_rows {off : Fin 2 → ℕ} {o : ℕ} (X : Vec Ideal S8320x128 .f32) (hoff : off = ![o, 0])
    (inb : ∀ a : Fin 2, off a + (![640, 128] : Fin 2 → ℕ) a ≤ S8320x128.size a) (r : Fin 640) (d : Fin 128) {y : Fin 8320}
    (hy : y.val = o + r.val) :
    View.ld (Val := Elt Ideal) X (Rect.unit (s := S8320x128) off ![640, 128] inb) (ix2 r d) = X (ix2 y d) := by
  subst hoff
  refine congrArg X (funext fun a => Fin.ext ?_)
  fin_cases a
  · simp [Rect.unit, Rect.emb, ix2, hy]
  · simp [Rect.unit, Rect.emb, ix2]

omit hB in
theorem termQ_in (Q K V G : ℕ → ℕ → ℕ → ℝ) (C T M : ℕ → ℕ → ℝ) {n : ℕ} {y : Fin 8320} {r : Fin 640}
    (hr : y.val = 640 * (n % 13) + r.val) (d : Fin 128) :
    termQ Q K V G C T M n y d = ∑ x : Fin 640, kprob Q K C T (n / 169) (640 * (n % 13) + r.val) (640 * (n / 13 % 13) + x.val)
      * kdev V G M (n / 169) (640 * (n % 13) + r.val) (640 * (n / 13 % 13) + x.val) * K (n / 169) (640 * (n / 13 % 13) + x.val) d.val := by
  rw [← hr]
  exact if_pos (by omega)

theorem dq_reset (t : Fin cfg0.N) (ht : t.val % 169 = 0) (i : Fin 8320 × Fin 128) :
    (outsAt0 m c t.val t.isLt).2.2.2.2.1 (ix2 i.1 i.2) = (0 : EReal) + ((termQ Q K V G C T M t.val i.1 i.2 : ℝ) : EReal) := by
  have h : t.val / 13 % 13 = t.val % 13 := by omega
  rw [outsAt0_A m c t ht (by omega) (by omega) h (by omega) (by omega)]; frame_out
  by_cases hy : i.1.val / 640 = t.val % 13
  · obtain ⟨r, hr⟩ : ∃ r : Fin 640, i.1.val = 640 * (t.val % 13) + r.val :=
          ⟨⟨i.1.val - 640 * (t.val % 13), by omega⟩, (by omega : i.1.val = 640 * (t.val % 13) + (i.1.val - 640 * (t.val % 13)))⟩
    rw [← View.read_writes_junk_apply_eq_canon (View.whole cc0_scratch0),
      rows_in _ (off2_eq t) _ _ _ _ _ hr]
    rw [pay6_eq, pay5_at, pay18_real (p_diag hB h _ (by pointwise)) (w_at hB h.le) _ _ _ (hB.k t),
      ld_rows _ (off2_eq t) _ _ _ hr, pay1_at]
    exact congrArg _ (congrArg _ (termQ_in Q K V G C T M hr i.2).symm)
  · rw [← View.read_writes_junk_apply_eq_canon (View.whole cc0_scratch0),
      rows_out _ (off2_eq t) _ _ _ _ (by omega),
      View.read_writes_junk_apply_eq_canon]
    refine (congrFun (View.canon_cons_unit_lit (Val := Elt Ideal) (e := .f32) (S := S8320x128) inb_S8320x128_S8320x128_0_0 (k0_pay1 (F := Ideal)) [] (by decide)) _).trans ?_
    rw [pay1_at, termQ, if_neg hy, EReal.coe_zero, add_zero]

theorem dq_step (t : Fin cfg0.N) (ht : ¬t.val % 169 = 0) (i : Fin 8320 × Fin 128) :
    (outsAt0 m c t.val t.isLt).2.2.2.2.1 (ix2 i.1 i.2)
      = (outsAt0 m c (t.val - 1) (Nat.lt_of_le_of_lt (Nat.sub_le _ _) t.isLt)).2.2.2.2.1 (ix2 i.1 i.2)
        + ((termQ Q K V G C T M t.val i.1 i.2 : ℝ) : EReal) := by
  rcases lt_trichotomy (t.val / 13 % 13) (t.val % 13) with h | h | h
  · by_cases h4 : t.val % 13 = 12
    · rw [outsAt0_C m c t ht (by omega) h (by omega) h4 (by omega)]; frame_out
      by_cases hy : i.1.val / 640 = t.val % 13
      · obtain ⟨r, hr⟩ : ∃ r : Fin 640, i.1.val = 640 * (t.val % 13) + r.val :=
          ⟨⟨i.1.val - 640 * (t.val % 13), by omega⟩, (by omega : i.1.val = 640 * (t.val % 13) + (i.1.val - 640 * (t.val % 13)))⟩
        rw [rows_in _ (off1_eq t) _ _ _ _ _ hr]
        rw [pay5_at, pay18_real (p_below hB h _ (by pointwise)) (w_at hB h.le) _ _ _ (hB.k t), read_unread_whole,
          ld_rows _ (off1_eq t) _ _ _ hr]
        exact congrArg _ (congrArg _ (termQ_in Q K V G C T M hr i.2).symm)
      · rw [rows_out _ (off1_eq t) _ _ _ _ (by omega)]
        rw [termQ, if_neg hy, EReal.coe_zero, add_zero]
        exact congrFun (read_unread_whole _ _ _) _

    · rw [outsAt0_B m c t ht (by omega) h (by omega) h4 (by omega)]; frame_out
      by_cases hy : i.1.val / 640 = t.val % 13
      · obtain ⟨r, hr⟩ : ∃ r : Fin 640, i.1.val = 640 * (t.val % 13) + r.val :=
          ⟨⟨i.1.val - 640 * (t.val % 13), by omega⟩, (by omega : i.1.val = 640 * (t.val % 13) + (i.1.val - 640 * (t.val % 13)))⟩
        rw [rows_in _ (off1_eq t) _ _ _ _ _ hr]
        rw [pay5_at, pay18_real (p_below hB h _ (by pointwise)) (w_at hB h.le) _ _ _ (hB.k t), read_unread_whole,
          ld_rows _ (off1_eq t) _ _ _ hr]
        exact congrArg _ (congrArg _ (termQ_in Q K V G C T M hr i.2).symm)
      · rw [rows_out _ (off1_eq t) _ _ _ _ (by omega)]
        rw [termQ, if_neg hy, EReal.coe_zero, add_zero]
        exact congrFun (read_unread_whole _ _ _) _

  · by_cases h4 : t.val % 13 = 12
    · rw [outsAt0_G m c t ht (by omega) (by omega) h h4 (by omega)]; frame_out
      by_cases hy : i.1.val / 640 = t.val % 13
      · obtain ⟨r, hr⟩ : ∃ r : Fin 640, i.1.val = 640 * (t.val % 13) + r.val :=
          ⟨⟨i.1.val - 640 * (t.val % 13), by omega⟩, (by omega : i.1.val = 640 * (t.val % 13) + (i.1.val - 640 * (t.val % 13)))⟩
        rw [rows_in _ (off2_eq t) _ _ _ _ _ hr]
        rw [pay6_eq, pay5_at, pay18_real (p_diag hB h _ (by pointwise)) (w_at hB h.le) _ _ _ (hB.k t), read_unread_whole,
          ld_rows _ (off2_eq t) _ _ _ hr]
        exact congrArg _ (congrArg _ (termQ_in Q K V G C T M hr i.2).symm)
      · rw [rows_out _ (off2_eq t) _ _ _ _ (by omega)]
        rw [termQ, if_neg hy, EReal.coe_zero, add_zero]
        exact congrFun (read_unread_whole _ _ _) _

    · rw [outsAt0_E m c t ht (by omega) (by omega) h h4 (by omega)]; frame_out
      by_cases hy : i.1.val / 640 = t.val % 13
      · obtain ⟨r, hr⟩ : ∃ r : Fin 640, i.1.val = 640 * (t.val % 13) + r.val :=
          ⟨⟨i.1.val - 640 * (t.val % 13), by omega⟩, (by omega : i.1.val = 640 * (t.val % 13) + (i.1.val - 640 * (t.val % 13)))⟩
        rw [rows_in _ (off2_eq t) _ _ _ _ _ hr]
        rw [pay6_eq, pay5_at, pay18_real (p_diag hB h _ (by pointwise)) (w_at hB h.le) _ _ _ (hB.k t), read_unread_whole,
          ld_rows _ (off2_eq t) _ _ _ hr]
        exact congrArg _ (congrArg _ (termQ_in Q K V G C T M hr i.2).symm)
      · rw [rows_out _ (off2_eq t) _ _ _ _ (by omega)]
        rw [termQ, if_neg hy, EReal.coe_zero, add_zero]
        exact congrFun (read_unread_whole _ _ _) _

  · rw [termQ_above Q K V G C T M h, EReal.coe_zero, add_zero]
    by_cases h1 : t.val % 13 = 0
    · rw [outsAt0_D m c t ht h1 (by omega) (by omega) (by omega) (by omega)]
      rfl
    · rw [outsAt0_F m c t ht h1 (by omega) (by omega) (by omega) (by omega)]
      rfl

end Cert.KernelIdeal.Fold

end
-- ==== Proof.Host.lean ====
/- The arrays the gradient kernel is called on: the rows' saved logarithms and means, and the blocks each point reads. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Ref
public import proofs.«01_k».proof.Proof.Fold
public import Idealize.ShloMosaic.Lib.Pipeline.ValueKit
public import Idealize.ShloMosaic.Lib.Pipeline.ReadBack
public import Idealize.ShloMosaic.Lib.WritesUnit
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.Fox Cert.ReferenceIdeal.Read

/-! ## The host's lines, named -/

/-- The largest score of each query. -/
def kmx (A : FVec Ideal S8320x15360 .bf16) (C : FVec Ideal S8x8320 .f32) : FVec Ideal S8x8208 .f32 :=
  Host.reduce FloatOps.maximumf (sc A C) (constant S_ .f32 0xFF800000#32) reducesTo_S8x8208x8208_S8x8208_d2 h_S_

/-- The exponentials of the scores less the largest. -/
def kex (A : FVec Ideal S8320x15360 .bf16) (C : FVec Ideal S8x8320 .f32) : FVec Ideal S8x8208x8208 .f32 :=
  Host.exp (subf (sc A C) (broadcastInDim S8x8208x8208 ![0, 1, 2] bcast_S8x8208x1_S8x8208x8208_0_1_2
    (broadcastInDim S8x8208x1 ![0, 1] bcast_S8x8208_S8x8208x1_0_1 (kmx A C))))

/-- Their sum over the keys. -/
def kls (A : FVec Ideal S8320x15360 .bf16) (C : FVec Ideal S8x8320 .f32) : FVec Ideal S8x8208 .f32 :=
  Host.reduceAdd (kex A C) (constant S_ .f32 0x00000000#32) reducesTo_S8x8208x8208_S8x8208_d2 h_S_

/-- The probabilities. -/
def kpr (A : FVec Ideal S8320x15360 .bf16) (C : FVec Ideal S8x8320 .f32) : FVec Ideal S8x8208x8208 .f32 :=
  Host.divf (kex A C) (broadcastInDim S8x8208x8208 ![0, 1, 2] bcast_S8x8208x1_S8x8208x8208_0_1_2
    (broadcastInDim S8x8208x1 ![0, 1] bcast_S8x8208_S8x8208x1_0_1 (kls A C)))

/-- The attention's result by head. -/
def ko (A : FVec Ideal S8320x15360 .bf16) (C : FVec Ideal S8x8320 .f32) : FVec Ideal S8x8208x128 .f32 :=
  Host.dotGeneral dot_S8x8208x8208_S8x8208x128_S8x8208x128_2_1_1_2_0_0 none (kpr A C) (hv A)

/-- Each row's product with its gradient. -/
def kmean (A : FVec Ideal S8320x15360 .bf16) (C : FVec Ideal S8x8320 .f32) (D : FVec Ideal S8208x1024 .bf16) : FVec Ideal S8x8208 .f32 :=
  Host.reduceAdd (mulf (ko A C) (hd D)) (constant S_ .f32 0x00000000#32) reducesTo_S8x8208x128_S8x8208_d2 h_S_

/-- The decay at the first position of each row's block. -/
def kfirst (C : FVec Ideal S8x8320 .f32) : FVec Ideal S8x8208 .f32 :=
  extractStridedSlice S8x8208 ![0, 112] (shapeCast S8x8320 (broadcastInDim S8x13x640 ![0, 1, 2] bcast_S8x13x1_S8x13x640_0_1_2
    (extractStridedSlice S8x13x1 ![0, 0, 0] (shapeCast S8x13x640 C shapeCasts_S8x8320_S8x13x640) slices_S8x13x640_S8x13x1_0_0_0))
    shapeCasts_S8x13x640_S8x8320) slices_S8x8320_S8x8208_0_112

/-- The logarithm of each row's total, less the decay since its block's first position. -/
def klse (A : FVec Ideal S8320x15360 .bf16) (C : FVec Ideal S8x8320 .f32) : FVec Ideal S8x8208 .f32 :=
  subf (addf (kmx A C) (Host.log (kls A C))) (subf (cc C) (kfirst C))

/-- Padded in front with zeros, as a column. -/
def kcol (x : FVec Ideal S8x8208 .f32) : FVec Ideal S8x8320x1 .f32 :=
  broadcastInDim S8x8320x1 ![0, 1] bcast_S8x8320_S8x8320x1_0_1
    (pad S8x8320 ![0, 112] ![0, 0] ![0, 0] x (sitofp .f32 (constantI S_ 32 0#32)) pads_S8x8208_S8x8320_000_11200 h_S_)

/-- The gradient of the attention's result, padded in front with zeros. -/
def kdo (D : FVec Ideal S8208x1024 .bf16) : FVec Ideal S8320x1024 .bf16 :=
  pad S8320x1024 ![112, 0] ![0, 0] ![0, 0] D (sitofp .bf16 (constantI S_ 32 0#32)) pads_S8208x1024_S8320x1024_11200_000 h_S_

section Entry

variable (m : (ℓ : Loc nD τ sig) → Buf (Elt Ideal) ℓ) (c : Dev nD)

theorem entry53 : V m c main_v53 = kdo (m ((c.tc : Thread nD τ).loc main_arg2)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.ternary, StableHlo.TRef.nullary, StableHlo.TRef.toBuf, StableHlo.TRef.ofBuf, cast_eq]
  after_reads_simp
  rfl

theorem entry54 : V m c main_v54 = broadcastInDim S8x8320x1 ![0, 1] bcast_S8x8320_S8x8320x1_0_1 (m ((c.tc : Thread nD τ).loc main_arg1)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.ternary, StableHlo.TRef.nullary, StableHlo.TRef.toBuf, StableHlo.TRef.ofBuf, cast_eq]
  after_reads_simp

theorem entry55 : V m c main_v55 = broadcastInDim S8x1x8320 ![0, 2] bcast_S8x8320_S8x1x8320_0_2 (m ((c.tc : Thread nD τ).loc main_arg1)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.ternary, StableHlo.TRef.nullary, StableHlo.TRef.toBuf, StableHlo.TRef.ofBuf, cast_eq]
  after_reads_simp

theorem entry57 : V m c main_v57 = kcol (klse (m ((c.tc : Thread nD τ).loc main_arg0)) (m ((c.tc : Thread nD τ).loc main_arg1))) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.ternary, StableHlo.TRef.nullary, StableHlo.TRef.toBuf, StableHlo.TRef.ofBuf, cast_eq]
  after_reads_simp
  rfl

theorem entry59 : V m c main_v59 = kcol (kmean (m ((c.tc : Thread nD τ).loc main_arg0)) (m ((c.tc : Thread nD τ).loc main_arg1)) (m ((c.tc : Thread nD τ).loc main_arg2))) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.ternary, StableHlo.TRef.nullary, StableHlo.TRef.toBuf, StableHlo.TRef.ofBuf, cast_eq]
  after_reads_simp
  rfl

end Entry

/-! ## Over real arguments -/

variable {A : FVec Ideal S8320x15360 .bf16} {C : FVec Ideal S8x8320 .f32} {D : FVec Ideal S8208x1024 .bf16}
  {a d g : ℕ → ℕ → ℝ}
  (hA : ∀ (r : Fin 8320) (k : Fin 15360), A (ix2 r k) = ((a r.val k.val : ℝ) : EReal))
  (hC : ∀ (h : Fin 8) (r : Fin 8320), C (ix2 h r) = ((d h.val r.val : ℝ) : EReal))
  (hD : ∀ (r : Fin 8208) (k : Fin 1024), D (ix2 r k) = ((g r.val k.val : ℝ) : EReal))

include hA hC in
theorem kmx_at (h : Fin 8) (i : Fin 8208) : ∃ M : ℝ, kmx A C (ix2 h i) = ((M : ℝ) : EReal) :=
  max_real (sc A C) (constant (F := Ideal) S_ .f32 0xFF800000#32) reducesTo_S8x8208x8208_S8x8208_d2 h_S_
    (ix2 h i) ninf_eq
    (fun k => by
      rw [eq_ix3 k]
      refine (ne_of_eq_of_ne (sc_at hA hC (k 0) (k 1) (k 2)) ?_)
      split
      · exact EReal.coe_ne_top _
      · exact bot_ne_top)
    (ix3 h i i) (drop_at h i i)
    (ne_of_eq_of_ne (sc_at hA hC h i i) (by rw [if_pos le_rfl]; exact EReal.coe_ne_bot _))

include hA hC in
/-- The largest scores as a table of reals. -/
theorem kmx_table : ∃ M : ℕ → ℕ → ℝ, ∀ (h : Fin 8) (i : Fin 8208), kmx A C (ix2 h i) = ((M h.val i.val : ℝ) : EReal) := by
  choose M hM using kmx_at hA hC
  refine ⟨fun h i => if hh : h < 8 ∧ i < 8208 then M ⟨h, hh.1⟩ ⟨i, hh.2⟩ else 0, fun h i => ?_⟩
  have e : (if hh : h.val < 8 ∧ i.val < 8208 then M ⟨h.val, hh.1⟩ ⟨i.val, hh.2⟩ else 0) = M h i := dif_pos ⟨h.isLt, i.isLt⟩
  exact (hM h i).trans (congrArg ((↑) : ℝ → EReal) e.symm)

section Row

variable {M : ℝ} {h : Fin 8} {i : Fin 8208} (hM : kmx A C (ix2 h i) = ((M : ℝ) : EReal))

include hA hC hM in
theorem kex_at (j : Fin 8208) : kex A C (ix3 h i j) = ((weight a d M h.val i.val j.val : ℝ) : EReal) := by
  pointwise [kex]
  rw [hM, sc_at hA hC, exp_if]
  rfl

include hA hC hM in
theorem kls_at : kls A C (ix2 h i) = ((total a d M h.val i.val : ℝ) : EReal) := by
  pointwise [kls]
  exact sum_coe fun j => kex_at hA hC hM j

include hC in
theorem kfirst_at (h : Fin 8) (i : Fin 8208) : kfirst C (ix2 h i) = ((d h.val (640 * ((112 + i.val) / 640)) : ℝ) : EReal) := by
  pointwise [kfirst]
  rw [hC]
  exact congrArg (fun n => ((d h.val n : ℝ) : EReal)) (Nat.mul_comm _ _)

/-- A row's logarithm less its decay, at an entry. -/
theorem lse_at (x y z w : FVec Ideal S8x8208 .f32) (h : Fin 8) (i : Fin 8208) :
    subf (addf x (Host.log y)) (subf z w) (ix2 h i)
      = x (ix2 h i) + Ideal.log (y (ix2 h i)) - (z (ix2 h i) - w (ix2 h i)) := by
  pointwise

include hC in
theorem cc_at (h : Fin 8) (i : Fin 8208) : cc C (ix2 h i) = ((d h.val (112 + i.val) : ℝ) : EReal) := by
  pointwise [cc]
  exact hC _ _

include hA hC hM in
theorem klse_at : klse A C (ix2 h i) = ((M + Real.log (total a d M h.val i.val)
    - (d h.val (112 + i.val) - d h.val (640 * ((112 + i.val) / 640))) : ℝ) : EReal) := by
  unfold klse
  rw [lse_at, hM, kls_at hA hC hM, kfirst_at hC, cc_at hC, Ideal.log_coe, if_neg (not_le.2 (total_pos a d M _ _)), ← EReal.coe_add, ← EReal.coe_sub,
    ← EReal.coe_sub]

end Row

include hA hC in
theorem kpr_at (h : Fin 8) (i j : Fin 8208) : kpr A C (ix3 h i j) = ((prob a d h.val i.val j.val : ℝ) : EReal) := by
  obtain ⟨M, hM⟩ := kmx_at hA hC h i
  pointwise [kpr]
  rw [kex_at hA hC hM, kls_at hA hC hM, div_real _ (total_pos a d M _ _).ne', weight_div]

include hA hC in
theorem ko_at (h : Fin 8) (i : Fin 8208) (k : Fin 128) : ko A C (ix3 h i k)
    = ((∑ j : Fin 8208, prob a d h.val i.val j.val * a (112 + j.val) (2048 + (h.val * 128 + k.val)) : ℝ) : EReal) := by
  pointwise [ko]
  exact dot_coe (fun j => kpr_at hA hC h i j) (fun j => hv_at hA h j k)

include hA hC hD in
theorem kmean_at (h : Fin 8) (i : Fin 8208) : kmean A C D (ix2 h i) = ((mean a d g h.val i.val : ℝ) : EReal) := by
  pointwise [kmean]
  rw [← mean_eq]
  exact sum_coe fun k => by rw [ko_at hA hC, hd_at hD, ← EReal.coe_mul]

/-- A padded column at an entry. -/
theorem kcol_at {x : FVec Ideal S8x8208 .f32} {X : ℕ → ℕ → ℝ} (hX : ∀ (h : Fin 8) (i : Fin 8208), x (ix2 h i) = ((X h.val i.val : ℝ) : EReal))
    (h : Fin 8) (r : Fin 8320) : kcol x (ix3 h r 0) = ((if 112 ≤ r.val then X h.val (r.val - 112) else 0 : ℝ) : EReal) := by
  pointwise [kcol]
  by_cases hi : 112 ≤ r.val
  · rw [dif_pos ⟨hi, by omega⟩, if_pos hi]
    exact hX _ _
  · rw [dif_neg (fun h => hi h.1), if_neg hi]
    exact sitofp_zero

include hD in
theorem kdo_at (r : Fin 8320) (k : Fin 1024) : kdo D (ix2 r k) = ((if 112 ≤ r.val then g (r.val - 112) k.val else 0 : ℝ) : EReal) := by
  pointwise [kdo]
  by_cases hi : 112 ≤ r.val
  · rw [dif_pos ⟨hi, by omega⟩, if_pos hi]
    exact hD _ _
  · rw [dif_neg (fun h => hi h.1), if_neg hi]
    exact sitofp_zero

end Cert.KernelIdeal.Host

end
-- ==== Proof.Entry.lean ====
/- The blocks each point of the gradient kernel reads, as tables of reals. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Host
public import proofs.«01_k».proof.Proof.Fold
public import Idealize.ShloMosaic.Lib.Pipeline.ValueKit
public import Idealize.ShloMosaic.Lib.Pipeline.ReadBack
public import Idealize.ShloMosaic.Lib.WritesUnit
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.Fox Cert.KernelIdeal.Host

variable (m : (ℓ : Loc nD τ sig) → Buf (Elt Ideal) ℓ) (c : Dev nD)

theorem index0 : ∀ t : Fin cfg0.N, win0_0.index t (0 : Fin 2) = max (t.val / 13 % 13) (t.val % 13) ∧ win0_0.index t (1 : Fin 2) = t.val / 169 :=
  (by decide +kernel : ∀ t : Fin grid0.N, win0_0.index t (0 : Fin 2) = max (t.val / 13 % 13) (t.val % 13) ∧ win0_0.index t (1 : Fin 2) = t.val / 169)

theorem index1 : ∀ t : Fin cfg0.N, win0_1.index t (0 : Fin 2) = t.val / 13 % 13 ∧ win0_1.index t (1 : Fin 2) = 8 + t.val / 169 :=
  (by decide +kernel : ∀ t : Fin grid0.N, win0_1.index t (0 : Fin 2) = t.val / 13 % 13 ∧ win0_1.index t (1 : Fin 2) = 8 + t.val / 169)

theorem index2 : ∀ t : Fin cfg0.N, win0_2.index t (0 : Fin 2) = t.val / 13 % 13 ∧ win0_2.index t (1 : Fin 2) = 16 + t.val / 169 :=
  (by decide +kernel : ∀ t : Fin grid0.N, win0_2.index t (0 : Fin 2) = t.val / 13 % 13 ∧ win0_2.index t (1 : Fin 2) = 16 + t.val / 169)

theorem index3 : ∀ t : Fin cfg0.N, win0_3.index t (0 : Fin 3) = t.val / 169 ∧ win0_3.index t (1 : Fin 3) = max (t.val / 13 % 13) (t.val % 13) ∧ win0_3.index t (2 : Fin 3) = 0 :=
  (by decide +kernel : ∀ t : Fin grid0.N, win0_3.index t (0 : Fin 3) = t.val / 169 ∧ win0_3.index t (1 : Fin 3) = max (t.val / 13 % 13) (t.val % 13) ∧ win0_3.index t (2 : Fin 3) = 0)

theorem index4 : ∀ t : Fin cfg0.N, win0_4.index t (0 : Fin 3) = t.val / 169 ∧ win0_4.index t (1 : Fin 3) = 0 ∧ win0_4.index t (2 : Fin 3) = t.val / 13 % 13 :=
  (by decide +kernel : ∀ t : Fin grid0.N, win0_4.index t (0 : Fin 3) = t.val / 169 ∧ win0_4.index t (1 : Fin 3) = 0 ∧ win0_4.index t (2 : Fin 3) = t.val / 13 % 13)

theorem index5 : ∀ t : Fin cfg0.N, win0_5.index t (0 : Fin 3) = t.val / 169 ∧ win0_5.index t (1 : Fin 3) = max (t.val / 13 % 13) (t.val % 13) ∧ win0_5.index t (2 : Fin 3) = 0 :=
  (by decide +kernel : ∀ t : Fin grid0.N, win0_5.index t (0 : Fin 3) = t.val / 169 ∧ win0_5.index t (1 : Fin 3) = max (t.val / 13 % 13) (t.val % 13) ∧ win0_5.index t (2 : Fin 3) = 0)

theorem index6 : ∀ t : Fin cfg0.N, win0_6.index t (0 : Fin 3) = t.val / 169 ∧ win0_6.index t (1 : Fin 3) = max (t.val / 13 % 13) (t.val % 13) ∧ win0_6.index t (2 : Fin 3) = 0 :=
  (by decide +kernel : ∀ t : Fin grid0.N, win0_6.index t (0 : Fin 3) = t.val / 169 ∧ win0_6.index t (1 : Fin 3) = max (t.val / 13 % 13) (t.val % 13) ∧ win0_6.index t (2 : Fin 3) = 0)

theorem index7 : ∀ t : Fin cfg0.N, win0_7.index t (0 : Fin 2) = max (t.val / 13 % 13) (t.val % 13) ∧ win0_7.index t (1 : Fin 2) = t.val / 169 :=
  (by decide +kernel : ∀ t : Fin grid0.N, win0_7.index t (0 : Fin 2) = max (t.val / 13 % 13) (t.val % 13) ∧ win0_7.index t (1 : Fin 2) = t.val / 169)

theorem read0 (t : Fin cfg0.N) (r : Fin 640) (k : Fin 128) (R : Fin 8320) (E : Fin 15360)
    (hR : R.val = 640 * (max (t.val / 13 % 13) (t.val % 13)) + r.val) (hE : E.val = (t.val / 169) * 128 + k.val) :
    iblk m c 0 t (ix2 r k) = V m c main_arg0 (ix2 R E) := by
  obtain ⟨e0, e1⟩ := index0 t
  have h0 : (((cfg0.win 0).blk t).view.emb (ix2 r k) 0).val = win0_0.index t (0 : Fin 2) * 640 + 1 * r.val := rfl
  have h1 : (((cfg0.win 0).blk t).view.emb (ix2 r k) 1).val = win0_0.index t (1 : Fin 2) * 128 + 1 * k.val := rfl
  refine congrArg (V m c main_arg0) (funext fun a => Fin.ext ?_)
  match a with
  | ⟨0, _⟩ => exact h0.trans (by rw [e0]; show _ = R.val; omega)
  | ⟨1, _⟩ => exact h1.trans (by rw [e1]; show _ = E.val; omega)

theorem read1 (t : Fin cfg0.N) (r : Fin 640) (k : Fin 128) (R : Fin 8320) (E : Fin 15360)
    (hR : R.val = 640 * (t.val / 13 % 13) + r.val) (hE : E.val = (8 + t.val / 169) * 128 + k.val) :
    iblk m c 1 t (ix2 r k) = V m c main_arg0 (ix2 R E) := by
  obtain ⟨e0, e1⟩ := index1 t
  have h0 : (((cfg0.win 1).blk t).view.emb (ix2 r k) 0).val = win0_1.index t (0 : Fin 2) * 640 + 1 * r.val := rfl
  have h1 : (((cfg0.win 1).blk t).view.emb (ix2 r k) 1).val = win0_1.index t (1 : Fin 2) * 128 + 1 * k.val := rfl
  refine congrArg (V m c main_arg0) (funext fun a => Fin.ext ?_)
  match a with
  | ⟨0, _⟩ => exact h0.trans (by rw [e0]; show _ = R.val; omega)
  | ⟨1, _⟩ => exact h1.trans (by rw [e1]; show _ = E.val; omega)

theorem read2 (t : Fin cfg0.N) (r : Fin 640) (k : Fin 128) (R : Fin 8320) (E : Fin 15360)
    (hR : R.val = 640 * (t.val / 13 % 13) + r.val) (hE : E.val = (16 + t.val / 169) * 128 + k.val) :
    iblk m c 2 t (ix2 r k) = V m c main_arg0 (ix2 R E) := by
  obtain ⟨e0, e1⟩ := index2 t
  have h0 : (((cfg0.win 2).blk t).view.emb (ix2 r k) 0).val = win0_2.index t (0 : Fin 2) * 640 + 1 * r.val := rfl
  have h1 : (((cfg0.win 2).blk t).view.emb (ix2 r k) 1).val = win0_2.index t (1 : Fin 2) * 128 + 1 * k.val := rfl
  refine congrArg (V m c main_arg0) (funext fun a => Fin.ext ?_)
  match a with
  | ⟨0, _⟩ => exact h0.trans (by rw [e0]; show _ = R.val; omega)
  | ⟨1, _⟩ => exact h1.trans (by rw [e1]; show _ = E.val; omega)

theorem read3 (t : Fin cfg0.N) (r : Fin 640) (H : Fin 8) (R : Fin 8320)
    (hH : H.val = t.val / 169) (hR : R.val = 640 * (max (t.val / 13 % 13) (t.val % 13)) + r.val) :
    iblk m c 3 t (ix3 0 r 0) = V m c main_v54 (ix3 H R 0) := by
  obtain ⟨e0, e1, e2⟩ := index3 t
  have h0 : (((cfg0.win 3).blk t).view.emb (ix3 0 r 0) 0).val = win0_3.index t (0 : Fin 3) * 1 + 1 * 0 := rfl
  have h1 : (((cfg0.win 3).blk t).view.emb (ix3 0 r 0) 1).val = win0_3.index t (1 : Fin 3) * 640 + 1 * r.val := rfl
  have h2 : (((cfg0.win 3).blk t).view.emb (ix3 0 r 0) 2).val = win0_3.index t (2 : Fin 3) * 1 + 1 * 0 := rfl
  refine congrArg (V m c main_v54) (funext fun a => Fin.ext ?_)
  match a with
  | ⟨0, _⟩ => exact h0.trans (by rw [e0]; show _ = H.val; omega)
  | ⟨1, _⟩ => exact h1.trans (by rw [e1]; show _ = R.val; omega)
  | ⟨2, _⟩ => exact h2.trans (by rw [e2]; rfl)

theorem read4 (t : Fin cfg0.N) (x : Fin 640) (H : Fin 8) (R : Fin 8320)
    (hH : H.val = t.val / 169) (hR : R.val = 640 * (t.val / 13 % 13) + x.val) :
    iblk m c 4 t (ix3 0 0 x) = V m c main_v55 (ix3 H 0 R) := by
  obtain ⟨e0, e1, e2⟩ := index4 t
  have h0 : (((cfg0.win 4).blk t).view.emb (ix3 0 0 x) 0).val = win0_4.index t (0 : Fin 3) * 1 + 1 * 0 := rfl
  have h1 : (((cfg0.win 4).blk t).view.emb (ix3 0 0 x) 1).val = win0_4.index t (1 : Fin 3) * 1 + 1 * 0 := rfl
  have h2 : (((cfg0.win 4).blk t).view.emb (ix3 0 0 x) 2).val = win0_4.index t (2 : Fin 3) * 640 + 1 * x.val := rfl
  refine congrArg (V m c main_v55) (funext fun a => Fin.ext ?_)
  match a with
  | ⟨0, _⟩ => exact h0.trans (by rw [e0]; show _ = H.val; omega)
  | ⟨1, _⟩ => exact h1.trans (by rw [e1]; rfl)
  | ⟨2, _⟩ => exact h2.trans (by rw [e2]; show _ = R.val; omega)

theorem read5 (t : Fin cfg0.N) (r : Fin 640) (H : Fin 8) (R : Fin 8320)
    (hH : H.val = t.val / 169) (hR : R.val = 640 * (max (t.val / 13 % 13) (t.val % 13)) + r.val) :
    iblk m c 5 t (ix3 0 r 0) = V m c main_v57 (ix3 H R 0) := by
  obtain ⟨e0, e1, e2⟩ := index5 t
  have h0 : (((cfg0.win 5).blk t).view.emb (ix3 0 r 0) 0).val = win0_5.index t (0 : Fin 3) * 1 + 1 * 0 := rfl
  have h1 : (((cfg0.win 5).blk t).view.emb (ix3 0 r 0) 1).val = win0_5.index t (1 : Fin 3) * 640 + 1 * r.val := rfl
  have h2 : (((cfg0.win 5).blk t).view.emb (ix3 0 r 0) 2).val = win0_5.index t (2 : Fin 3) * 1 + 1 * 0 := rfl
  refine congrArg (V m c main_v57) (funext fun a => Fin.ext ?_)
  match a with
  | ⟨0, _⟩ => exact h0.trans (by rw [e0]; show _ = H.val; omega)
  | ⟨1, _⟩ => exact h1.trans (by rw [e1]; show _ = R.val; omega)
  | ⟨2, _⟩ => exact h2.trans (by rw [e2]; rfl)

theorem read6 (t : Fin cfg0.N) (r : Fin 640) (H : Fin 8) (R : Fin 8320)
    (hH : H.val = t.val / 169) (hR : R.val = 640 * (max (t.val / 13 % 13) (t.val % 13)) + r.val) :
    iblk m c 6 t (ix3 0 r 0) = V m c main_v59 (ix3 H R 0) := by
  obtain ⟨e0, e1, e2⟩ := index6 t
  have h0 : (((cfg0.win 6).blk t).view.emb (ix3 0 r 0) 0).val = win0_6.index t (0 : Fin 3) * 1 + 1 * 0 := rfl
  have h1 : (((cfg0.win 6).blk t).view.emb (ix3 0 r 0) 1).val = win0_6.index t (1 : Fin 3) * 640 + 1 * r.val := rfl
  have h2 : (((cfg0.win 6).blk t).view.emb (ix3 0 r 0) 2).val = win0_6.index t (2 : Fin 3) * 1 + 1 * 0 := rfl
  refine congrArg (V m c main_v59) (funext fun a => Fin.ext ?_)
  match a with
  | ⟨0, _⟩ => exact h0.trans (by rw [e0]; show _ = H.val; omega)
  | ⟨1, _⟩ => exact h1.trans (by rw [e1]; show _ = R.val; omega)
  | ⟨2, _⟩ => exact h2.trans (by rw [e2]; rfl)

theorem read7 (t : Fin cfg0.N) (r : Fin 640) (k : Fin 128) (R : Fin 8320) (E : Fin 1024)
    (hR : R.val = 640 * (max (t.val / 13 % 13) (t.val % 13)) + r.val) (hE : E.val = (t.val / 169) * 128 + k.val) :
    iblk m c 7 t (ix2 r k) = V m c main_v53 (ix2 R E) := by
  obtain ⟨e0, e1⟩ := index7 t
  have h0 : (((cfg0.win 7).blk t).view.emb (ix2 r k) 0).val = win0_7.index t (0 : Fin 2) * 640 + 1 * r.val := rfl
  have h1 : (((cfg0.win 7).blk t).view.emb (ix2 r k) 1).val = win0_7.index t (1 : Fin 2) * 128 + 1 * k.val := rfl
  refine congrArg (V m c main_v53) (funext fun a => Fin.ext ?_)
  match a with
  | ⟨0, _⟩ => exact h0.trans (by rw [e0]; show _ = R.val; omega)
  | ⟨1, _⟩ => exact h1.trans (by rw [e1]; show _ = E.val; omega)

/-! ## The tables -/

/-- Queries, keys, values and the result's gradient by head. -/
def tabQ (a : ℕ → ℕ → ℝ) (h n k : ℕ) : ℝ := a n (h * 128 + k)
def tabK (a : ℕ → ℕ → ℝ) (h n k : ℕ) : ℝ := a n (1024 + (h * 128 + k))
def tabV (a : ℕ → ℕ → ℝ) (h n k : ℕ) : ℝ := a n (2048 + (h * 128 + k))
def tabG (g : ℕ → ℕ → ℝ) (h n k : ℕ) : ℝ := if 112 ≤ n then g (n - 112) (h * 128 + k) else 0

/-- A row's saved logarithm, where `M` is what its scores are taken relative to. -/
def tabT (a d M : ℕ → ℕ → ℝ) (h n : ℕ) : ℝ :=
  if 112 ≤ n then M h (n - 112) + Real.log (total a d (M h (n - 112)) h (n - 112))
    - (d h (112 + (n - 112)) - d h (640 * ((112 + (n - 112)) / 640))) else 0

def tabM (a d g : ℕ → ℕ → ℝ) (h n : ℕ) : ℝ := if 112 ≤ n then mean a d g h (n - 112) else 0

theorem blocks {a d g : ℕ → ℕ → ℝ}
    (hA : ∀ (r : Fin 8320) (k : Fin 15360), m ((c.tc : Thread nD τ).loc main_arg0) (ix2 r k) = ((a r.val k.val : ℝ) : EReal))
    (hC : ∀ (h : Fin 8) (r : Fin 8320), m ((c.tc : Thread nD τ).loc main_arg1) (ix2 h r) = ((d h.val r.val : ℝ) : EReal))
    (hD : ∀ (r : Fin 8208) (k : Fin 1024), m ((c.tc : Thread nD τ).loc main_arg2) (ix2 r k) = ((g r.val k.val : ℝ) : EReal)) :
    ∃ M : ℕ → ℕ → ℝ, Blocks m c (tabQ a) (tabK a) (tabV a) (tabG g) d (tabT a d M) (tabM a d g) := by
  have hN : cfg0.N = 1352 := N_0
  obtain ⟨M, hM⟩ := kmx_table hA hC
  have head (t : Fin cfg0.N) : t.val / 169 < 8 := by have := t.isLt; omega
  have row (t : Fin cfg0.N) (r : Fin 640) : 640 * max (t.val / 13 % 13) (t.val % 13) + r.val < 8320 := by have := r.isLt; omega
  have key (t : Fin cfg0.N) (r : Fin 640) : 640 * (t.val / 13 % 13) + r.val < 8320 := by have := r.isLt; omega
  refine ⟨M, fun t r k => ?_, fun t r k => ?_, fun t r k => ?_, fun t r => ?_, fun t x => ?_, fun t r => ?_, fun t r => ?_, fun t r k => ?_⟩
  · have := head t
    refine (read0 m c t r k ⟨_, row t r⟩ ⟨t.val / 169 * 128 + k.val, by omega⟩ rfl rfl).trans ?_
    rw [V_main_arg0]
    exact hA _ _
  · have := head t
    refine (read1 m c t r k ⟨_, key t r⟩ ⟨1024 + (t.val / 169 * 128 + k.val), by omega⟩ rfl (by simp only; omega)).trans ?_
    rw [V_main_arg0]
    exact hA _ _
  · have := head t
    refine (read2 m c t r k ⟨_, key t r⟩ ⟨2048 + (t.val / 169 * 128 + k.val), by omega⟩ rfl (by simp only; omega)).trans ?_
    rw [V_main_arg0]
    exact hA _ _
  · refine (read3 m c t r ⟨_, head t⟩ ⟨_, row t r⟩ rfl rfl).trans ?_
    rw [entry54]
    pointwise
    exact hC _ _
  · refine (read4 m c t x ⟨_, head t⟩ ⟨_, key t x⟩ rfl rfl).trans ?_
    rw [entry55]
    pointwise
    exact hC _ _
  · refine (read5 m c t r ⟨_, head t⟩ ⟨_, row t r⟩ rfl rfl).trans ?_
    rw [entry57]
    exact kcol_at (X := fun h i => M h i + Real.log (total a d (M h i) h i) - (d h (112 + i) - d h (640 * ((112 + i) / 640))))
      (fun h i => klse_at hA hC (hM h i)) _ _
  · refine (read6 m c t r ⟨_, head t⟩ ⟨_, row t r⟩ rfl rfl).trans ?_
    rw [entry59]
    exact kcol_at (X := mean a d g) (fun h i => kmean_at hA hC hD h i) _ _
  · have := head t
    refine (read7 m c t r k ⟨_, row t r⟩ ⟨t.val / 169 * 128 + k.val, by omega⟩ rfl rfl).trans ?_
    rw [entry53]
    exact kdo_at hD _ _

end Cert.KernelIdeal.Fold

end
-- ==== Proof.Sums.lean ====
/- What the gradient kernel leaves in its four results: sums over the real positions of the sequence. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Payload
public import Idealize.ShloMosaic.Lib.Pipeline.ValueKit
public import proofs.«01_k».proof.Proof.Fold
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Payload Cert.Fox

/-! ## Regrouping a sum over blocks -/

theorem sum_runs (b : ℕ) (F : ℕ → ℝ) (n : ℕ) :
    ∑ k ∈ Finset.range n, ∑ r ∈ Finset.range b, F (b * k + r) = ∑ i ∈ Finset.range (b * n), F i := by
  induction n with
  | zero => simp
  | succ n ih => rw [Finset.sum_range_succ, ih, Nat.mul_succ, Finset.sum_range_add]

/-- Over the 13 blocks of the padded sequence, of terms that vanish on the padding: the sum over the real positions. -/
theorem sum_blocks (F : ℕ → ℝ) (h0 : ∀ i < 112, F i = 0) :
    ∑ k ∈ Finset.range 13, ∑ r : Fin 640, F (640 * k + r.val) = ∑ i : Fin 8208, F (112 + i.val) := by
  have e : ∀ k, ∑ r : Fin 640, F (640 * k + r.val) = ∑ r ∈ Finset.range 640, F (640 * k + r) :=
    fun k => Fin.sum_univ_eq_sum_range (fun r => F (640 * k + r)) 640
  rw [Finset.sum_congr rfl fun k _ => e k, sum_runs 640 F 13, show 640 * 13 = 112 + 8208 from rfl, Finset.sum_range_add,
    Finset.sum_eq_zero fun i hi => h0 i (Finset.mem_range.1 hi), zero_add]
  exact (Fin.sum_univ_eq_sum_range (fun i => F (112 + i)) 8208).symm

variable (m : (ℓ : Loc nD τ sig) → Buf (Elt Ideal) ℓ) (c : Dev nD)

/-! ## What the writing points write -/

/-- The keys' gradient, scaled. -/
theorem dk_out (t : Fin cfg0.N) (h4 : t.val % 13 = 12) (x : Fin 640) (d : Fin 128) :
    (outsAt0 m c t.val t.isLt).2.1 (ix2 x d) = (outsAt0 m c t.val t.isLt).2.2.2.2.2.1 (ix2 x d) * ((scale : ℝ) : EReal) := by
  rcases Nat.lt_or_ge (t.val / 13 % 13) 12 with h | h
  · rw [outsAt0_C m c t (by omega) (by omega) (by omega) (by omega) h4 (by omega)]; frame_out
    rw [pay7_at]
  · rw [outsAt0_G m c t (by omega) (by omega) (by omega) (by omega) h4 (by omega)]; frame_out
    rw [pay7_at]

/-- The values' gradient. -/
theorem dv_out (t : Fin cfg0.N) (h4 : t.val % 13 = 12) (x : Fin 640) (d : Fin 128) :
    (outsAt0 m c t.val t.isLt).2.2.1 (ix2 x d) = (outsAt0 m c t.val t.isLt).2.2.2.2.2.2.1 (ix2 x d) := by
  rcases Nat.lt_or_ge (t.val / 13 % 13) 12 with h | h
  · rw [outsAt0_C m c t (by omega) (by omega) (by omega) (by omega) h4 (by omega)]; frame_out
    rw [pay8_at]
  · rw [outsAt0_G m c t (by omega) (by omega) (by omega) (by omega) h4 (by omega)]; frame_out
    rw [pay8_at]

/-- The gate sums' gradient. -/
theorem dc_out (t : Fin cfg0.N) (h4 : t.val % 13 = 12) (x : Fin 640) :
    (outsAt0 m c t.val t.isLt).2.2.2.1 (ix3 0 0 x) = (outsAt0 m c t.val t.isLt).2.2.2.2.2.2.2 (ix2 0 x) := by
  rcases Nat.lt_or_ge (t.val / 13 % 13) 12 with h | h
  · rw [outsAt0_C m c t (by omega) (by omega) (by omega) (by omega) h4 (by omega)]; frame_out
    rw [pay9_at]
  · rw [outsAt0_G m c t (by omega) (by omega) (by omega) (by omega) h4 (by omega)]; frame_out
    rw [pay9_at]

/-- The queries' gradient, scaled. -/
theorem dq_out (t : Fin cfg0.N) (h5 : t.val % 169 = 168) (y : Fin 8320) (d : Fin 128) :
    (outsAt0 m c t.val t.isLt).1 (ix2 y d) = (outsAt0 m c t.val t.isLt).2.2.2.2.1 (ix2 y d) * ((scale : ℝ) : EReal) := by
  rw [outsAt0_G m c t (by omega) (by omega) (by omega) (by omega) (by omega) h5]; frame_out
  rw [pay10_at]

section
variable (Q K V G : ℕ → ℕ → ℕ → ℝ) (C T M : ℕ → ℕ → ℝ)

theorem kprob_pad_key {h i j : ℕ} (hj : j < 112) : kprob Q K C T h i j = 0 := if_neg fun hh => by omega
theorem kprob_pad_row {h i j : ℕ} (hi : i < 112) : kprob Q K C T h i j = 0 := if_neg fun hh => by omega

end

variable {m c} {Q K V G : ℕ → ℕ → ℕ → ℝ} {C T M : ℕ → ℕ → ℝ} (hB : Blocks m c Q K V G C T M)

include hB

/-- The gradient of the keys. -/
theorem dk_at (t : Fin cfg0.N) (h12 : t.val % 13 = 12) (x : Fin 640) (d : Fin 128) :
    (outsAt0 m c t.val t.isLt).2.1 (ix2 x d) = (((∑ i : Fin 8208, kprob Q K C T (t.val / 169) (112 + i.val) (640 * (t.val / 13 % 13) + x.val) * kdev V G M (t.val / 169) (112 + i.val) (640 * (t.val / 13 % 13) + x.val)
        * Q (t.val / 169) (112 + i.val) d.val) * scale : ℝ) : EReal) := by
  have hs := Pipeline.eq_sum_of_reset_step_apply_of_mod (N := cfg0.N)
    (fun n hn (i : Fin 640 × Fin 128) => (outsAt0 m c n hn).2.2.2.2.2.1 (ix2 i.1 i.2)) 13 (fun _ => (0 : EReal))
    (fun n i => ((termK Q K V G C T M n i.1 i.2 : ℝ) : EReal)) (dk_reset hB) (dk_step hB) t h12 (x, d)
  rw [dk_out m c t h12]
  refine (congrArg (· * ((scale : ℝ) : EReal)) hs).trans ?_
  rw [zero_add, ← coe_sum, ← EReal.coe_mul]
  refine congrArg Real.toEReal (congrArg (· * scale) ?_)
  rw [← sum_blocks (fun i => kprob Q K C T (t.val / 169) i (640 * (t.val / 13 % 13) + x.val) * kdev V G M (t.val / 169) i (640 * (t.val / 13 % 13) + x.val) * Q (t.val / 169) i d.val) (fun i hi => by simp only [kprob_pad_row Q K C T hi, zero_mul])]
  refine Finset.sum_congr rfl fun k hk => ?_
  have hk := Finset.mem_range.1 hk
  have e1 : (13 * (t.val / 13) + k) / 169 = t.val / 169 := by omega
  have e2 : (13 * (t.val / 13) + k) % 13 = k := by omega
  have e3 : (13 * (t.val / 13) + k) / 13 % 13 = t.val / 13 % 13 := by omega
  unfold termK
  simp only [e1, e2, e3]

/-- The gradient of the values. -/
theorem dv_at (t : Fin cfg0.N) (h12 : t.val % 13 = 12) (x : Fin 640) (d : Fin 128) :
    (outsAt0 m c t.val t.isLt).2.2.1 (ix2 x d) = ((∑ i : Fin 8208, kprob Q K C T (t.val / 169) (112 + i.val) (640 * (t.val / 13 % 13) + x.val)
        * G (t.val / 169) (112 + i.val) d.val : ℝ) : EReal) := by
  have hs := Pipeline.eq_sum_of_reset_step_apply_of_mod (N := cfg0.N)
    (fun n hn (i : Fin 640 × Fin 128) => (outsAt0 m c n hn).2.2.2.2.2.2.1 (ix2 i.1 i.2)) 13 (fun _ => (0 : EReal))
    (fun n i => ((termV Q K G C T n i.1 i.2 : ℝ) : EReal)) (dv_reset hB) (dv_step hB) t h12 (x, d)
  rw [dv_out m c t h12]
  refine (hs).trans ?_
  rw [zero_add, ← coe_sum]
  refine congrArg Real.toEReal (?_)
  rw [← sum_blocks (fun i => kprob Q K C T (t.val / 169) i (640 * (t.val / 13 % 13) + x.val) * G (t.val / 169) i d.val) (fun i hi => by simp only [kprob_pad_row Q K C T hi, zero_mul])]
  refine Finset.sum_congr rfl fun k hk => ?_
  have hk := Finset.mem_range.1 hk
  have e1 : (13 * (t.val / 13) + k) / 169 = t.val / 169 := by omega
  have e2 : (13 * (t.val / 13) + k) % 13 = k := by omega
  have e3 : (13 * (t.val / 13) + k) / 13 % 13 = t.val / 13 % 13 := by omega
  unfold termV
  simp only [e1, e2, e3]

/-- The gradient of the gate sums at the keys. -/
theorem dc_at (t : Fin cfg0.N) (h12 : t.val % 13 = 12) (x : Fin 640) :
    (outsAt0 m c t.val t.isLt).2.2.2.1 (ix3 0 0 x) = ((-∑ i : Fin 8208, kprob Q K C T (t.val / 169) (112 + i.val) (640 * (t.val / 13 % 13) + x.val)
        * kdev V G M (t.val / 169) (112 + i.val) (640 * (t.val / 13 % 13) + x.val) : ℝ) : EReal) := by
  have hs := Pipeline.eq_sum_of_reset_step_apply_of_mod (N := cfg0.N)
    (fun n hn (i : Fin 640) => (outsAt0 m c n hn).2.2.2.2.2.2.2 (ix2 0 i)) 13 (fun _ => (0 : EReal))
    (fun n i => ((termC Q K V G C T M n i : ℝ) : EReal)) (dc_reset hB) (dc_step hB) t h12 x
  rw [dc_out m c t h12]
  refine (hs).trans ?_
  rw [zero_add, ← coe_sum]
  refine congrArg Real.toEReal (?_)
  rw [← sum_blocks (fun i => kprob Q K C T (t.val / 169) i (640 * (t.val / 13 % 13) + x.val) * kdev V G M (t.val / 169) i (640 * (t.val / 13 % 13) + x.val)) (fun i hi => by simp only [kprob_pad_row Q K C T hi, zero_mul]), ← Finset.sum_neg_distrib]
  refine Finset.sum_congr rfl fun k hk => ?_
  have hk := Finset.mem_range.1 hk
  have e1 : (13 * (t.val / 13) + k) / 169 = t.val / 169 := by omega
  have e2 : (13 * (t.val / 13) + k) % 13 = k := by omega
  have e3 : (13 * (t.val / 13) + k) / 13 % 13 = t.val / 13 % 13 := by omega
  unfold termC
  simp only [e1, e2, e3]

/-- The gradient of the queries. -/
theorem dq_at (t : Fin cfg0.N) (h168 : t.val % 169 = 168) (y : Fin 8320) (d : Fin 128) :
    (outsAt0 m c t.val t.isLt).1 (ix2 y d) = ((
      (∑ j : Fin 8208, kprob Q K C T (t.val / 169) y.val (112 + j.val) * kdev V G M (t.val / 169) y.val (112 + j.val)
        * K (t.val / 169) (112 + j.val) d.val) * scale : ℝ) : EReal) := by
  have hs := Pipeline.eq_sum_of_reset_step_apply_of_mod (N := cfg0.N)
    (fun n hn (i : Fin 8320 × Fin 128) => (outsAt0 m c n hn).2.2.2.2.1 (ix2 i.1 i.2)) 169 (fun _ => (0 : EReal))
    (fun n i => ((termQ Q K V G C T M n i.1 i.2 : ℝ) : EReal)) (dq_reset hB) (dq_step hB) t h168 (y, d)
  rw [dq_out m c t h168]
  refine (congrArg (· * ((scale : ℝ) : EReal)) hs).trans ?_
  rw [zero_add, ← coe_sum, ← EReal.coe_mul]
  refine congrArg Real.toEReal (congrArg (· * scale) ?_)
  rw [← sum_blocks (fun j => kprob Q K C T (t.val / 169) y.val j * kdev V G M (t.val / 169) y.val j * K (t.val / 169) j d.val)
      (fun i hi => by simp only [kprob_pad_key Q K C T hi, zero_mul])]
  refine (sum_runs 13 (fun k => termQ Q K V G C T M (169 * (t.val / 169) + k) y d) 13).symm.trans ?_
  refine Finset.sum_congr rfl fun j hj => ?_
  have hj := Finset.mem_range.1 hj
  refine (Finset.sum_eq_single_of_mem (y.val / 640) (Finset.mem_range.2 (by omega)) fun r hr hne => ?_).trans ?_
  · have hr := Finset.mem_range.1 hr
    exact if_neg (by omega)
  · have e1 : (169 * (t.val / 169) + (13 * j + y.val / 640)) / 169 = t.val / 169 := by omega
    have e3 : (169 * (t.val / 169) + (13 * j + y.val / 640)) / 13 % 13 = j := by omega
    unfold termQ
    rw [if_pos (by omega)]
    simp only [e1, e3]

end Cert.KernelIdeal.Fold

end
-- ==== Proof.Out.lean ====
/- The four result arrays after the run, from what their writing points write. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen

variable (m : (ℓ : Loc nD τ sig) → Buf (Elt Ideal) ℓ) (c : Dev nD)

/-! ## Result 0 -/

theorem index8 : ∀ t : Fin cfg0.N, win0_8.index t (0 : Fin 2) = 0 ∧ win0_8.index t (1 : Fin 2) = t.val / 169 :=
  (by decide +kernel : ∀ t : Fin grid0.N, win0_8.index t (0 : Fin 2) = 0 ∧ win0_8.index t (1 : Fin 2) = t.val / 169)

theorem mem8 (t : Fin cfg0.N) (i : S8320x1024.Idx) :
    i ∈ ((cfg0.win 8).blk t).view.set ↔ ∀ a : Fin 2, win0_8.index t a * S8320x128.size a ≤ (i a).val
      ∧ (i a).val < win0_8.index t a * S8320x128.size a + S8320x128.size a := by
  show i ∈ ((View.whole main_v60_0).slice (win0_8.rect t)).set ↔ _
  rw [View.set_slice_whole, Rect.mem_set_unit]
  exact Iff.rfl

/-- If every writing point writes its block of `X`, the array ends holding `X`. -/
theorem final8 (X : Vec Ideal S8320x1024 .bf16)
    (hX : ∀ (t : Fin cfg0.N), t.val % 169 = 168 → ∀ (y : Fin 8320) (d : Fin 128) (i : Fin 8320) (e : Fin 1024),
      i.val = y.val → e.val = 128 * (t.val / 169) + d.val → (outsAt0 m c t.val t.isLt).1 (ix2 y d) = X (ix2 i e)) :
    (dats m 0 c).arrAt 8 cfg0.N = X := by
  refine (dats m 0 c).arrAt_eq_of_cover 8 X (fun t hf => ?_) fun i => ?_
  · have hm : t.val % 169 = 168 := (flush0_8 t).mp hf
    show (cfg0.win 8).cut (grid0.coords t) ((dats m 0 c).after 8 t) = _
    rw [after0_8]
    obtain ⟨e0, e1⟩ := index8 t
    funext y
    have hb0 : (((cfg0.win 8).blk t).view.emb y 0).val = win0_8.index t (0 : Fin 2) * 8320 + 1 * (y 0).val := rfl
    have hb1 : (((cfg0.win 8).blk t).view.emb y 1).val = win0_8.index t (1 : Fin 2) * 128 + 1 * (y 1).val := rfl
    have h := hX t hm ⟨(y 0).val, (y 0).isLt⟩ ⟨(y 1).val, (y 1).isLt⟩ (((cfg0.win 8).blk t).view.emb y 0)
      (((cfg0.win 8).blk t).view.emb y 1) (by rw [hb0, e0]; simp only; omega) (by rw [hb1, e1]; simp only; omega)
    rw [← eq_ix2 (((cfg0.win 8).blk t).view.emb y)] at h
    refine Eq.trans (congrArg (outsAt0 m c t.val t.isLt).1 ?_) h
    funext a
    fin_cases a <;> rfl
  · have hi0 : (i 0).val < 8320 := (i 0).isLt
    have hi1 : (i 1).val < 1024 := (i 1).isLt
    have hN : cfg0.N = 1352 := N_0
    obtain ⟨t, ht⟩ : ∃ t : Fin cfg0.N, t.val = 169 * ((i 1).val / 128) + 168 :=
      ⟨⟨_, by omega⟩, rfl⟩
    obtain ⟨e0, e1⟩ := index8 t
    refine ⟨t, (flush0_8 t).mpr (by omega), (mem8 t i).2 fun a => ?_⟩
    match a with
    | ⟨0, _⟩ =>
      show win0_8.index t (0 : Fin 2) * 8320 ≤ (i 0).val ∧ (i 0).val < win0_8.index t (0 : Fin 2) * 8320 + 8320
      omega
    | ⟨1, _⟩ =>
      show win0_8.index t (1 : Fin 2) * 128 ≤ (i 1).val ∧ (i 1).val < win0_8.index t (1 : Fin 2) * 128 + 128
      omega

/-! ## Result 1 -/

theorem index9 : ∀ t : Fin cfg0.N, win0_9.index t (0 : Fin 2) = t.val / 13 % 13 ∧ win0_9.index t (1 : Fin 2) = t.val / 169 :=
  (by decide +kernel : ∀ t : Fin grid0.N, win0_9.index t (0 : Fin 2) = t.val / 13 % 13 ∧ win0_9.index t (1 : Fin 2) = t.val / 169)

theorem mem9 (t : Fin cfg0.N) (i : S8320x1024.Idx) :
    i ∈ ((cfg0.win 9).blk t).view.set ↔ ∀ a : Fin 2, win0_9.index t a * S640x128.size a ≤ (i a).val
      ∧ (i a).val < win0_9.index t a * S640x128.size a + S640x128.size a := by
  show i ∈ ((View.whole main_v60_1).slice (win0_9.rect t)).set ↔ _
  rw [View.set_slice_whole, Rect.mem_set_unit]
  exact Iff.rfl

/-- If every writing point writes its block of `X`, the array ends holding `X`. -/
theorem final9 (X : Vec Ideal S8320x1024 .bf16)
    (hX : ∀ (t : Fin cfg0.N), t.val % 13 = 12 → ∀ (y : Fin 640) (d : Fin 128) (i : Fin 8320) (e : Fin 1024),
      i.val = 640 * (t.val / 13 % 13) + y.val → e.val = 128 * (t.val / 169) + d.val → (outsAt0 m c t.val t.isLt).2.1 (ix2 y d) = X (ix2 i e)) :
    (dats m 0 c).arrAt 9 cfg0.N = X := by
  refine (dats m 0 c).arrAt_eq_of_cover 9 X (fun t hf => ?_) fun i => ?_
  · have hm : t.val % 13 = 12 := (flush0_9 t).mp hf
    show (cfg0.win 9).cut (grid0.coords t) ((dats m 0 c).after 9 t) = _
    rw [after0_9]
    obtain ⟨e0, e1⟩ := index9 t
    funext y
    have hb0 : (((cfg0.win 9).blk t).view.emb y 0).val = win0_9.index t (0 : Fin 2) * 640 + 1 * (y 0).val := rfl
    have hb1 : (((cfg0.win 9).blk t).view.emb y 1).val = win0_9.index t (1 : Fin 2) * 128 + 1 * (y 1).val := rfl
    have h := hX t hm ⟨(y 0).val, (y 0).isLt⟩ ⟨(y 1).val, (y 1).isLt⟩ (((cfg0.win 9).blk t).view.emb y 0)
      (((cfg0.win 9).blk t).view.emb y 1) (by rw [hb0, e0]; simp only; omega) (by rw [hb1, e1]; simp only; omega)
    rw [← eq_ix2 (((cfg0.win 9).blk t).view.emb y)] at h
    refine Eq.trans (congrArg (outsAt0 m c t.val t.isLt).2.1 ?_) h
    funext a
    fin_cases a <;> rfl
  · have hi0 : (i 0).val < 8320 := (i 0).isLt
    have hi1 : (i 1).val < 1024 := (i 1).isLt
    have hN : cfg0.N = 1352 := N_0
    obtain ⟨t, ht⟩ : ∃ t : Fin cfg0.N, t.val = 169 * ((i 1).val / 128) + 13 * ((i 0).val / 640) + 12 :=
      ⟨⟨_, by omega⟩, rfl⟩
    obtain ⟨e0, e1⟩ := index9 t
    refine ⟨t, (flush0_9 t).mpr (by omega), (mem9 t i).2 fun a => ?_⟩
    match a with
    | ⟨0, _⟩ =>
      show win0_9.index t (0 : Fin 2) * 640 ≤ (i 0).val ∧ (i 0).val < win0_9.index t (0 : Fin 2) * 640 + 640
      omega
    | ⟨1, _⟩ =>
      show win0_9.index t (1 : Fin 2) * 128 ≤ (i 1).val ∧ (i 1).val < win0_9.index t (1 : Fin 2) * 128 + 128
      omega

/-! ## Result 2 -/

theorem index10 : ∀ t : Fin cfg0.N, win0_10.index t (0 : Fin 2) = t.val / 13 % 13 ∧ win0_10.index t (1 : Fin 2) = t.val / 169 :=
  (by decide +kernel : ∀ t : Fin grid0.N, win0_10.index t (0 : Fin 2) = t.val / 13 % 13 ∧ win0_10.index t (1 : Fin 2) = t.val / 169)

theorem mem10 (t : Fin cfg0.N) (i : S8320x1024.Idx) :
    i ∈ ((cfg0.win 10).blk t).view.set ↔ ∀ a : Fin 2, win0_10.index t a * S640x128.size a ≤ (i a).val
      ∧ (i a).val < win0_10.index t a * S640x128.size a + S640x128.size a := by
  show i ∈ ((View.whole main_v60_2).slice (win0_10.rect t)).set ↔ _
  rw [View.set_slice_whole, Rect.mem_set_unit]
  exact Iff.rfl

/-- If every writing point writes its block of `X`, the array ends holding `X`. -/
theorem final10 (X : Vec Ideal S8320x1024 .bf16)
    (hX : ∀ (t : Fin cfg0.N), t.val % 13 = 12 → ∀ (y : Fin 640) (d : Fin 128) (i : Fin 8320) (e : Fin 1024),
      i.val = 640 * (t.val / 13 % 13) + y.val → e.val = 128 * (t.val / 169) + d.val → (outsAt0 m c t.val t.isLt).2.2.1 (ix2 y d) = X (ix2 i e)) :
    (dats m 0 c).arrAt 10 cfg0.N = X := by
  refine (dats m 0 c).arrAt_eq_of_cover 10 X (fun t hf => ?_) fun i => ?_
  · have hm : t.val % 13 = 12 := (flush0_10 t).mp hf
    show (cfg0.win 10).cut (grid0.coords t) ((dats m 0 c).after 10 t) = _
    rw [after0_10]
    obtain ⟨e0, e1⟩ := index10 t
    funext y
    have hb0 : (((cfg0.win 10).blk t).view.emb y 0).val = win0_10.index t (0 : Fin 2) * 640 + 1 * (y 0).val := rfl
    have hb1 : (((cfg0.win 10).blk t).view.emb y 1).val = win0_10.index t (1 : Fin 2) * 128 + 1 * (y 1).val := rfl
    have h := hX t hm ⟨(y 0).val, (y 0).isLt⟩ ⟨(y 1).val, (y 1).isLt⟩ (((cfg0.win 10).blk t).view.emb y 0)
      (((cfg0.win 10).blk t).view.emb y 1) (by rw [hb0, e0]; simp only; omega) (by rw [hb1, e1]; simp only; omega)
    rw [← eq_ix2 (((cfg0.win 10).blk t).view.emb y)] at h
    refine Eq.trans (congrArg (outsAt0 m c t.val t.isLt).2.2.1 ?_) h
    funext a
    fin_cases a <;> rfl
  · have hi0 : (i 0).val < 8320 := (i 0).isLt
    have hi1 : (i 1).val < 1024 := (i 1).isLt
    have hN : cfg0.N = 1352 := N_0
    obtain ⟨t, ht⟩ : ∃ t : Fin cfg0.N, t.val = 169 * ((i 1).val / 128) + 13 * ((i 0).val / 640) + 12 :=
      ⟨⟨_, by omega⟩, rfl⟩
    obtain ⟨e0, e1⟩ := index10 t
    refine ⟨t, (flush0_10 t).mpr (by omega), (mem10 t i).2 fun a => ?_⟩
    match a with
    | ⟨0, _⟩ =>
      show win0_10.index t (0 : Fin 2) * 640 ≤ (i 0).val ∧ (i 0).val < win0_10.index t (0 : Fin 2) * 640 + 640
      omega
    | ⟨1, _⟩ =>
      show win0_10.index t (1 : Fin 2) * 128 ≤ (i 1).val ∧ (i 1).val < win0_10.index t (1 : Fin 2) * 128 + 128
      omega

/-! ## Result 3 -/

theorem index11 : ∀ t : Fin cfg0.N, win0_11.index t (0 : Fin 3) = t.val / 169 ∧ win0_11.index t (1 : Fin 3) = 0
    ∧ win0_11.index t (2 : Fin 3) = t.val / 13 % 13 :=
  (by decide +kernel : ∀ t : Fin grid0.N, win0_11.index t (0 : Fin 3) = t.val / 169 ∧ win0_11.index t (1 : Fin 3) = 0
    ∧ win0_11.index t (2 : Fin 3) = t.val / 13 % 13)

theorem mem11 (t : Fin cfg0.N) (i : S8x1x8320.Idx) :
    i ∈ ((cfg0.win 11).blk t).view.set ↔ ∀ a : Fin 3, win0_11.index t a * S1x1x640.size a ≤ (i a).val
      ∧ (i a).val < win0_11.index t a * S1x1x640.size a + S1x1x640.size a := by
  show i ∈ ((View.whole main_v60_3).slice (win0_11.rect t)).set ↔ _
  rw [View.set_slice_whole, Rect.mem_set_unit]
  exact Iff.rfl

theorem final11 (X : Vec Ideal S8x1x8320 .f32)
    (hX : ∀ (t : Fin cfg0.N), t.val % 13 = 12 → ∀ (y : Fin 640) (h : Fin 8) (i : Fin 8320),
      i.val = 640 * (t.val / 13 % 13) + y.val → h.val = t.val / 169 →
        (outsAt0 m c t.val t.isLt).2.2.2.1 (ix3 0 0 y) = X (ix3 h 0 i)) :
    (dats m 0 c).arrAt 11 cfg0.N = X := by
  refine (dats m 0 c).arrAt_eq_of_cover 11 X (fun t hf => ?_) fun i => ?_
  · have hm : t.val % 13 = 12 := (flush0_11 t).mp hf
    show (cfg0.win 11).cut (grid0.coords t) ((dats m 0 c).after 11 t) = _
    rw [after0_11]
    obtain ⟨e0, e1, e2⟩ := index11 t
    funext y
    have hy0 : (y 0).val < 1 := (y 0).isLt
    have hy1 : (y 1).val < 1 := (y 1).isLt
    have hb0 : (((cfg0.win 11).blk t).view.emb y 0).val = win0_11.index t (0 : Fin 3) * 1 + 1 * (y 0).val := rfl
    have hb1 : (((cfg0.win 11).blk t).view.emb y 1).val = win0_11.index t (1 : Fin 3) * 1 + 1 * (y 1).val := rfl
    have hb2 : (((cfg0.win 11).blk t).view.emb y 2).val = win0_11.index t (2 : Fin 3) * 640 + 1 * (y 2).val := rfl
    have h := hX t hm ⟨(y 2).val, (y 2).isLt⟩ (((cfg0.win 11).blk t).view.emb y 0) (((cfg0.win 11).blk t).view.emb y 2)
      (by rw [hb2, e2]; simp only; omega) (by rw [hb0, e0]; omega)
    have h1 : ((cfg0.win 11).blk t).view.emb y 1 = (0 : Fin 1) := Subsingleton.elim (α := Fin 1) _ _
    have h2 : ((cfg0.win 11).blk t).view.emb y
        = ix3 (((cfg0.win 11).blk t).view.emb y 0) (0 : Fin 1) (((cfg0.win 11).blk t).view.emb y 2) := by
      rw [← h1]; exact eq_ix3 _
    refine Eq.trans (congrArg (outsAt0 m c t.val t.isLt).2.2.2.1 ?_) (h.trans (congrArg X h2.symm))
    funext a
    apply Fin.ext
    match a with
    | ⟨0, _⟩ => show (y 0).val = 0; omega
    | ⟨1, _⟩ => show (y 1).val = 0; omega
    | ⟨2, _⟩ => rfl
  · have hi0 : (i 0).val < 8 := (i 0).isLt
    have hi1 : (i 1).val < 1 := (i 1).isLt
    have hi2 : (i 2).val < 8320 := (i 2).isLt
    have hN : cfg0.N = 1352 := N_0
    obtain ⟨t, ht⟩ : ∃ t : Fin cfg0.N, t.val = 169 * (i 0).val + 13 * ((i 2).val / 640) + 12 := ⟨⟨_, by omega⟩, rfl⟩
    obtain ⟨e0, e1, e2⟩ := index11 t
    refine ⟨t, (flush0_11 t).mpr (by omega), (mem11 t i).2 fun a => ?_⟩
    match a with
    | ⟨0, _⟩ =>
      show win0_11.index t (0 : Fin 3) * 1 ≤ (i 0).val ∧ (i 0).val < win0_11.index t (0 : Fin 3) * 1 + 1
      omega
    | ⟨1, _⟩ =>
      show win0_11.index t (1 : Fin 3) * 1 ≤ (i 1).val ∧ (i 1).val < win0_11.index t (1 : Fin 3) * 1 + 1
      omega
    | ⟨2, _⟩ =>
      show win0_11.index t (2 : Fin 3) * 640 ≤ (i 2).val ∧ (i 2).val < win0_11.index t (2 : Fin 3) * 640 + 640
      omega

/-! ## The run -/

/-- After a run each result is what the points' blocks make of it, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v60_0) = (dats m 0 c).arrAt 8 cfg0.N
      ∧ r.2.mem ((c : Thread nD τ).loc main_v60_1) = (dats m 0 c).arrAt 9 cfg0.N
      ∧ r.2.mem ((c : Thread nD τ).loc main_v60_2) = (dats m 0 c).arrAt 10 cfg0.N
      ∧ r.2.mem ((c : Thread nD τ).loc main_v60_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 8, (h c).1 9, (h c).1 10, (h c).1 11,
    ((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.KernelIdeal.Out

end
-- ==== Proof.Equal.lean ====
/- The kernel's four results are the reference's. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Entry
public import proofs.«01_k».proof.Proof.Sums
public import proofs.«01_k».proof.Proof.Out
public import Idealize.ShloMosaic.Lib.Pipeline.ValueKit
public import Idealize.ShloMosaic.Lib.Pipeline.ReadBack
public import Idealize.ShloMosaic.Lib.WritesUnit
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.Fox Cert.ReferenceIdeal.Read

section Real

variable (a d g M : ℕ → ℕ → ℝ)

/-- On real rows and keys the kernel's weight is the probability. -/
theorem kprob_eq (h i j : ℕ) :
    kprob (tabQ a) (tabK a) d (tabT a d M) h (112 + i) (112 + j) = prob a d h i j := by
  unfold kprob
  by_cases hj : j ≤ i
  · rw [if_pos ⟨by omega, by omega⟩]
    refine prob_exp a d (M h i) hj _ ?_
    unfold tabT tabQ tabK score
    rw [if_pos (by omega), Nat.add_sub_cancel_left]
    ring
  · rw [if_neg (fun hh => hj (by omega)), prob_zero a d hj]

theorem kdev_eq (h i j : ℕ) :
    kdev (tabV a) (tabG g) (tabM a d g) h (112 + i) (112 + j) = dprob a g h i j - mean a d g h i := by
  unfold kdev tabV tabG tabM dprob
  simp only [if_pos (Nat.le_add_right 112 i), Nat.add_sub_cancel_left]

/-- Weight and deviation give the gradient of the score. -/
theorem kscore_eq (h i j : ℕ) :
    kprob (tabQ a) (tabK a) d (tabT a d M) h (112 + i) (112 + j) * kdev (tabV a) (tabG g) (tabM a d g) h (112 + i) (112 + j)
      = dscore a d g h i j := by
  rw [kprob_eq, kdev_eq, dscore]

theorem sumQ (h : ℕ) (y k : ℕ) :
    (∑ j : Fin 8208, kprob (tabQ a) (tabK a) d (tabT a d M) h y (112 + j.val)
        * kdev (tabV a) (tabG g) (tabM a d g) h y (112 + j.val) * tabK a h (112 + j.val) k) * scale
      = if 112 ≤ y then ∑ j : Fin 8208, dscore a d g h (y - 112) j.val * scale * a (112 + j.val) (1024 + (h * 128 + k)) else 0 := by
  by_cases hy : 112 ≤ y
  · obtain ⟨i, rfl⟩ := Nat.exists_eq_add_of_le hy
    rw [if_pos hy, Finset.sum_mul, Nat.add_sub_cancel_left]
    refine Finset.sum_congr rfl fun j _ => ?_
    rw [kscore_eq, tabK]
    ring
  · rw [if_neg hy, Finset.sum_eq_zero fun j _ => by rw [kprob_pad_row _ _ _ _ (by omega), zero_mul, zero_mul], zero_mul]

theorem sumK (h : ℕ) (x k : ℕ) :
    (∑ i : Fin 8208, kprob (tabQ a) (tabK a) d (tabT a d M) h (112 + i.val) x
        * kdev (tabV a) (tabG g) (tabM a d g) h (112 + i.val) x * tabQ a h (112 + i.val) k) * scale
      = if 112 ≤ x then ∑ i : Fin 8208, dscore a d g h i.val (x - 112) * scale * a (112 + i.val) (h * 128 + k) else 0 := by
  by_cases hx : 112 ≤ x
  · obtain ⟨j, rfl⟩ := Nat.exists_eq_add_of_le hx
    rw [if_pos hx, Finset.sum_mul, Nat.add_sub_cancel_left]
    refine Finset.sum_congr rfl fun i _ => ?_
    rw [kscore_eq, tabQ]
    ring
  · rw [if_neg hx, Finset.sum_eq_zero fun i _ => by rw [kprob_pad_key _ _ _ _ (by omega), zero_mul, zero_mul], zero_mul]

theorem sumV (h : ℕ) (x k : ℕ) :
    (∑ i : Fin 8208, kprob (tabQ a) (tabK a) d (tabT a d M) h (112 + i.val) x * tabG g h (112 + i.val) k)
      = if 112 ≤ x then ∑ i : Fin 8208, g i.val (h * 128 + k) * prob a d h i.val (x - 112) else 0 := by
  by_cases hx : 112 ≤ x
  · obtain ⟨j, rfl⟩ := Nat.exists_eq_add_of_le hx
    rw [if_pos hx, Nat.add_sub_cancel_left]
    refine Finset.sum_congr rfl fun i _ => ?_
    rw [kprob_eq, tabG, if_pos (Nat.le_add_right 112 i.val), Nat.add_sub_cancel_left, mul_comm]
  · rw [if_neg hx, Finset.sum_eq_zero fun i _ => by rw [kprob_pad_key _ _ _ _ (by omega), zero_mul]]

theorem sumC (h : ℕ) (x : ℕ) :
    -(∑ i : Fin 8208, kprob (tabQ a) (tabK a) d (tabT a d M) h (112 + i.val) x
        * kdev (tabV a) (tabG g) (tabM a d g) h (112 + i.val) x)
      = if 112 ≤ x then -∑ i : Fin 8208, dscore a d g h i.val (x - 112) else 0 := by
  by_cases hx : 112 ≤ x
  · obtain ⟨j, rfl⟩ := Nat.exists_eq_add_of_le hx
    rw [if_pos hx, Nat.add_sub_cancel_left]
    exact congrArg Neg.neg (Finset.sum_congr rfl fun i _ => kscore_eq a d g M h i.val j)
  · rw [if_neg hx, Finset.sum_eq_zero fun i _ => by rw [kprob_pad_key _ _ _ _ (by omega), zero_mul], neg_zero]

end Real

variable (m : (ℓ : Loc nD τ sig) → Buf (Elt Ideal) ℓ) (c : Dev nD) {a d g : ℕ → ℕ → ℝ}
  (hA : ∀ (r : Fin 8320) (k : Fin 15360), m ((c.tc : Thread nD τ).loc main_arg0) (ix2 r k) = ((a r.val k.val : ℝ) : EReal))
  (hC : ∀ (h : Fin 8) (r : Fin 8320), m ((c.tc : Thread nD τ).loc main_arg1) (ix2 h r) = ((d h.val r.val : ℝ) : EReal))
  (hD : ∀ (r : Fin 8208) (k : Fin 1024), m ((c.tc : Thread nD τ).loc main_arg2) (ix2 r k) = ((g r.val k.val : ℝ) : EReal))

include hA hC hD

/-- The gradient of the queries. -/
theorem resultQ : (dats m 0 c).arrAt 8 cfg0.N = outQ (m ((c.tc : Thread nD τ).loc main_arg0))
    (m ((c.tc : Thread nD τ).loc main_arg1)) (m ((c.tc : Thread nD τ).loc main_arg2)) := by
  obtain ⟨M, hB⟩ := blocks m c hA hC hD
  refine Out.final8 m c _ fun t ht y k i e hi he => ?_
  obtain rfl : i = y := Fin.ext hi
  have h1 : e.val / 128 = t.val / 169 := by have := k.isLt; omega
  have h2 : e.val % 128 = k.val := by have := k.isLt; omega
  refine (dq_at hB t ht i k).trans (Eq.trans ?_ (outQ_at hA hC hD i e).symm)
  rw [h1, h2, sumQ]

/-- The gradient of the keys. -/
theorem resultK : (dats m 0 c).arrAt 9 cfg0.N = outK (m ((c.tc : Thread nD τ).loc main_arg0))
    (m ((c.tc : Thread nD τ).loc main_arg1)) (m ((c.tc : Thread nD τ).loc main_arg2)) := by
  obtain ⟨M, hB⟩ := blocks m c hA hC hD
  refine Out.final9 m c _ fun t ht y k i e hi he => ?_
  have h1 : e.val / 128 = t.val / 169 := by have := k.isLt; omega
  have h2 : e.val % 128 = k.val := by have := k.isLt; omega
  refine (dk_at hB t ht y k).trans (Eq.trans ?_ (outK_at hA hC hD i e).symm)
  rw [h1, h2, ← hi, sumK]

/-- The gradient of the values. -/
theorem resultV : (dats m 0 c).arrAt 10 cfg0.N = outV (m ((c.tc : Thread nD τ).loc main_arg0))
    (m ((c.tc : Thread nD τ).loc main_arg1)) (m ((c.tc : Thread nD τ).loc main_arg2)) := by
  obtain ⟨M, hB⟩ := blocks m c hA hC hD
  refine Out.final10 m c _ fun t ht y k i e hi he => ?_
  have h1 : e.val / 128 = t.val / 169 := by have := k.isLt; omega
  have h2 : e.val % 128 = k.val := by have := k.isLt; omega
  refine (dv_at hB t ht y k).trans (Eq.trans ?_ (outV_at hA hC hD i e).symm)
  rw [h1, h2, ← hi, sumV]

/-- The gradient of the accumulated decay. -/
theorem resultC : (dats m 0 c).arrAt 11 cfg0.N = outC (m ((c.tc : Thread nD τ).loc main_arg0))
    (m ((c.tc : Thread nD τ).loc main_arg1)) (m ((c.tc : Thread nD τ).loc main_arg2)) := by
  obtain ⟨M, hB⟩ := blocks m c hA hC hD
  refine Out.final11 m c _ fun t ht y h i hi hh => ?_
  refine (dc_at hB t ht y).trans (Eq.trans ?_ (outC_at hA hC hD h i).symm)
  rw [hh, ← hi, sumC]

end Cert.KernelIdeal.Fold

end
-- ==== Proof.Product2.lean ====
/- The gradient of the projection's rows: what the call writes is the product of its gradient and the weights. -/
module
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Product

open Cert.Kernel2Ideal Cert.Kernel2Ideal.Gen

variable (m : (ℓ : Loc nD τ sig) → Buf (Elt Ideal) ℓ) (c : Dev nD)

/-- The reference's result. -/
abbrev res (X : FVec Ideal S8320x15360 .bf16) (W : FVec Ideal S2048x15360 .bf16) : FVec Ideal S8320x2048 .f32 :=
  Host.dotGeneral Cert.Reference2Ideal.dot_S8320x15360_S2048x15360_S8320x2048_1_1_0_0_n_n none
    (extf .f32 X Cert.Reference2Ideal.Gen.bitsLt_bf16_f32) (extf .f32 W Cert.Reference2Ideal.Gen.bitsLt_bf16_f32)

theorem index : ∀ t : Fin cfg0.N, win0_0.index t = ![t.val / 30, t.val % 15] ∧ win0_1.index t = ![t.val / 15 % 2, t.val % 15]
    ∧ win0_2.index t = ![t.val / 30, t.val / 15 % 2] := (by decide +kernel : ∀ t : Fin grid0.N, _)

theorem clear (j) : k0_pay1 (F := Ideal) j = 0 := by pointwise [k0_pay1]

theorem add (acc : FVec Ideal S1664x1024 .f32) (x : FVec Ideal S1664x1024 .bf16) (w : FVec Ideal S1024x1024 .bf16) (j) :
    k0_pay2 acc x w j = acc j + ∑ k : Fin 1024, x (ix2 (j 0) k) * w (ix2 (j 1) k) := by pointwise [k0_pay2]

/-- A writing point writes the scratch. -/
theorem written (t : Fin cfg0.N) (h : t.val % 15 = 14) (j) :
    (outsAt0 m c t.val t.isLt).1 j = (outsAt0 m c t.val t.isLt).2 j := by
  rw [outsAt0_C m c t (by omega) h]; frame_out

theorem final : (dats m 0 c).arrAt 2 (cfgs 0).N
    = res (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 15 (fun _ => 0) _
      (fun t h j => by rw [outsAt0_A m c t h (by omega)]; frame_out; rw [add, clear])
      (fun t h j => by
        by_cases h1 : t.val % 15 = 14
        · rw [outsAt0_C m c t h h1]; frame_out; rw [read_unread_whole, add]
        · rw [outsAt0_B m c t h h1]; frame_out; rw [read_unread_whole, add])
      t ((flush0_2 t).mp hf) _, zero_add]
  pointwise [res]
  refine Fin.sum_mul_add_congr fun s k hl => ?_
  blk_point [iblk, V, index t, index ⟨_, Pipeline.run_point_lt_of_flush t ((flush0_2 t).mp hf) s⟩]

end Cert.Kernel2Ideal.Product

end
-- ==== Proof.Stack.lean ====
/- The blocks that are written into an array of two layers' entries, the first of them new. -/
module
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Stack

abbrev Entry (a b : ℕ) : Shape := ⟨2, ![a, b]⟩
abbrev Layers (n a b : ℕ) : Shape := ⟨3, ![n, a, b]⟩

/-- A block of the new entry `p`, in its place in a stack `T` whose first layer's entry is `p`. -/
theorem placed {a b r q o1 o2 : ℕ} {φ : FTy} {p : FVec Ideal (Entry a b) φ} {T : FVec Ideal (Layers 2 a b) φ}
    (hT : ∀ i : (Layers 2 a b).Idx, (i 0).val = 0 → T i = p (ix2 (i 1) (i 2))) (out : FVec Ideal (Layers 1 r q) φ)
    (ho : ∀ (z : Fin 1) (x : Fin r) (y : Fin q) (e : Fin a) (d : Fin b), e.val = o1 + x.val → d.val = o2 + y.val →
      out (ix3 z x y) = p (ix2 e d))
    (y : (Layers 1 r q).Idx) (i : (Layers 2 a b).Idx) (h0 : (i 0).val = 0) (h1 : (i 1).val = o1 + (y 1).val)
    (h2 : (i 2).val = o2 + (y 2).val) : out y = T i :=
  (congrArg out (eq_ix3 y)).trans ((ho (y 0) (y 1) (y 2) (i 1) (i 2) h1 h2).trans (hT i h0).symm)

end Cert.Stack

end
-- ==== Proof.Product3.lean ====
/- The gradient of the projection's weights: the call writes the first layer's entry of both buffers and leaves the other. -/
module
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Stack
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ) (c : Dev nD)

/-- The reference's product. -/
abbrev prod (X : FVec Ideal S2048x8320 .bf16) (G : FVec Ideal S8320x15360 .bf16) : FVec Ideal Cert.Reference3Ideal.S2048x15360 .f32 :=
  transpose Cert.Reference3Ideal.S2048x15360 [1, 0]
    (Host.dotGeneral Cert.Reference3Ideal.dot_S8320x15360_S8320x2048_S15360x2048_0_0_1_1_n_n none
      (extf .f32 G Cert.Reference3Ideal.Gen.bitsLt_bf16_f32)
      (extf .f32 (transpose Cert.Reference3Ideal.S8320x2048 [1, 0] X Cert.Reference3Ideal.Gen.transposes_S2048x8320_S8320x2048_1_0)
        Cert.Reference3Ideal.Gen.bitsLt_bf16_f32))
    Cert.Reference3Ideal.Gen.transposes_S15360x2048_S2048x15360_1_0

theorem index : ∀ t : Fin cfg0.N, win0_0.index t = ![0, t.val % 5] ∧ win0_1.index t = ![t.val % 5, t.val / 5]
    ∧ win0_2.index t = ![0, 0, t.val / 5] ∧ win0_3.index t = ![0, 0, t.val / 5] := (by decide +kernel : ∀ t : Fin grid0.N, _)

theorem clear (j) : k0_pay1 (F := Ideal) j = 0 := by pointwise [k0_pay1]

theorem add (acc : FVec Ideal S2048x512 .f32) (x : FVec Ideal S2048x1664 .bf16) (w : FVec Ideal S1664x512 .bf16) (j) :
    k0_pay2 acc x w j = acc j + ∑ k : Fin 1664, x (ix2 (j 0) k) * w (ix2 k (j 1)) := by pointwise [k0_pay2]

/-- The scratch at a writing point is the product's block. -/
theorem total (t : Fin cfg0.N) (h : t.val % 5 = 4) (a : Fin 2048) (b : Fin 512) (e : Fin 2048) (d : Fin 15360)
    (he : e.val = 0 + a.val) (hd : d.val = t.val / 5 * 512 + b.val) :
    (outsAt0 m c t.val t.isLt).2.2 (ix2 a b)
      = prod (m ((c : Thread nD τ).loc main_arg0)) (m ((c : Thread nD τ).loc main_arg1)) (ix2 e d) := by
  rw [Pipeline.eq_sum_fin_of_reset_step_apply_of_flush (fun n h => (outsAt0 m c n h).2.2) 5 (fun _ => 0) _
      (fun t h j => by rw [outsAt0_A m c t h (by omega)]; frame_out; rw [add, clear])
      (fun t h j => by
        by_cases h1 : t.val % 5 = 4
        · rw [outsAt0_C m c t h h1]; frame_out; rw [read_unread_whole, add]
        · rw [outsAt0_B m c t h h1]; frame_out; rw [read_unread_whole, add])
      t h _, zero_add]
  pointwise [prod]
  refine Fin.sum_mul_add_congr fun s k hl => ?_
  refine Eq.trans ?_ (mul_comm (_ : EReal) _)
  blk_point [iblk, V, index t, index ⟨_, Pipeline.run_point_lt_of_flush t h s⟩]

theorem written32 (t : Fin cfg0.N) (h : t.val % 5 = 4) (z : Fin 1) (a : Fin 2048) (b : Fin 512) :
    (outsAt0 m c t.val t.isLt).1 (ix3 z a b) = (outsAt0 m c t.val t.isLt).2.2 (ix2 a b) := by
  rw [outsAt0_C m c t (by omega) h]; frame_out
  pointwise [k0_pay3]

theorem written16 (t : Fin cfg0.N) (h : t.val % 5 = 4) (z : Fin 1) (a : Fin 2048) (b : Fin 512) :
    (outsAt0 m c t.val t.isLt).2.1 (ix3 z a b) = (outsAt0 m c t.val t.isLt).2.2 (ix2 a b) := by
  rw [outsAt0_C m c t (by omega) h]; frame_out
  pointwise [k0_pay4]

/-- What the reference stacks: a new entry of the first layer on the second layer's entry of the buffer. -/
abbrev stacked {φ : FTy} (p : FVec Ideal Cert.Reference3Ideal.S2048x15360 φ) (B : FVec Ideal S2x2048x15360 φ) :
    FVec Ideal S2x2048x15360 φ :=
  concatenate S2x2048x15360 0 [⟨Cert.Reference3Ideal.S1x2048x15360, broadcastInDim Cert.Reference3Ideal.S1x2048x15360 ![1, 2]
      Cert.Reference3Ideal.Gen.bcast_S2048x15360_S1x2048x15360_1_2 p⟩,
    ⟨Cert.Reference3Ideal.S1x2048x15360, broadcastInDim Cert.Reference3Ideal.S1x2048x15360 ![1, 2]
      Cert.Reference3Ideal.Gen.bcast_S2048x15360_S1x2048x15360_1_2
      (shapeCast Cert.Reference3Ideal.S2048x15360 (extractStridedSlice Cert.Reference3Ideal.S1x2048x15360 ![1, 0, 0] B
        Cert.Reference3Ideal.Gen.slices_S2x2048x15360_S1x2048x15360_1_0_0)
        Cert.Reference3Ideal.Gen.shapeCasts_S1x2048x15360_S2048x15360)⟩]
    Cert.Reference3Ideal.Gen.concatenates_S1x2048x15360_S1x2048x15360_S2x2048x15360_d0

variable {φ : FTy} (p : FVec Ideal Cert.Reference3Ideal.S2048x15360 φ) (B : FVec Ideal S2x2048x15360 φ)

theorem stacked_first (i : S2x2048x15360.Idx) (h : (i 0).val = 0) : stacked p B i = p (ix2 (i 1) (i 2)) := by
  pointwise [stacked]
  exact dif_pos (by omega)

theorem stacked_second (i : S2x2048x15360.Idx) (h : ¬(i 0).val = 0) : stacked p B i = B i := by
  pointwise [stacked]
  rw [dif_neg (by omega)]
  blk_ext []

theorem final32 : (dats m 0 c).arrAt 2 (cfgs 0).N
    = stacked (prod (m ((c : Thread nD τ).loc main_arg0)) (m ((c : Thread nD τ).loc main_arg1))) (m ((c : Thread nD τ).loc main_arg2)) := by
  refine (dats m 0 c).arrAt_eq_of_coversWhere_of_agree 2 _ (fun β => β (0 : Fin 3) = 0) (by decide +kernel) (fun t hf y => ?_) (fun j hj => ?_)
  · have h := (flush0_2 t).mp hf
    blk_simp
    rw [after0_2]
    refine Cert.Stack.placed (stacked_first _ _) _ (fun z a b e d he hd => (written32 m c t h z a b).trans (total m c t h a b e d he hd)) y _ ?_ ?_ ?_ <;>
      blk_simp [index t]
  · blk_simp [Pipeline.Window.cell_apply] at hj
    have e : (dats m 0 c).A 2 = m ((c : Thread nD τ).loc main_arg2) := by
      rw [A_eq]
      entry_read
      rfl
    rw [e]
    refine (stacked_second _ _ ((cfg0.win 2).arr.view.emb j) fun h => hj ?_).symm
    have : (j 0).val = 0 := h
    omega

theorem final16 : (dats m 0 c).arrAt 3 (cfgs 0).N
    = stacked (truncf .bf16 (prod (m ((c : Thread nD τ).loc main_arg0)) (m ((c : Thread nD τ).loc main_arg1)))
        Cert.Reference3Ideal.Gen.bitsLt_bf16_f32) (m ((c : Thread nD τ).loc main_arg3)) := by
  refine (dats m 0 c).arrAt_eq_of_coversWhere_of_agree 3 _ (fun β => β (0 : Fin 3) = 0) (by decide +kernel) (fun t hf y => ?_) (fun j hj => ?_)
  · have h := (flush0_3 t).mp hf
    blk_simp
    rw [after0_3]
    refine Cert.Stack.placed (stacked_first _ _) _ (fun z a b e d he hd => (written16 m c t h z a b).trans (total m c t h a b e d he hd)) y _ ?_ ?_ ?_ <;>
      blk_simp [index t]
  · blk_simp [Pipeline.Window.cell_apply] at hj
    have e : (dats m 0 c).A 3 = m ((c : Thread nD τ).loc main_arg3) := by
      rw [A_eq]
      entry_read
      rfl
    rw [e]
    refine (stacked_second _ _ ((cfg0.win 3).arr.view.emb j) fun h => hj ?_).symm
    have : (j 0).val = 0 := h
    omega

end Cert.Kernel3Ideal.Product

end
-- ==== Proof.Product4.lean ====
/- The projection: what the call writes is the product of the rows and the weights. -/
module
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

variable (m : (ℓ : Loc nD τ sig) → Buf (Elt Ideal) ℓ) (c : Dev nD)

/-- The reference's result. -/
abbrev res (X : FVec Ideal S8320x2048 .bf16) (W : FVec Ideal S2048x15360 .bf16) : FVec Ideal S8320x15360 .bf16 :=
  truncf .bf16 (Host.dotGeneral Cert.Reference4Ideal.dot_S8320x2048_S2048x15360_S8320x15360_1_0_0_1_n_n none
    (extf .f32 X Cert.Reference4Ideal.Gen.bitsLt_bf16_f32) (extf .f32 W Cert.Reference4Ideal.Gen.bitsLt_bf16_f32))
    Cert.Reference4Ideal.Gen.bitsLt_bf16_f32

theorem index : ∀ t : Fin cfg0.N, win0_0.index t = ![t.val / 30, 0] ∧ win0_1.index t = ![0, t.val % 30]
    ∧ win0_2.index t = ![t.val / 30, t.val % 30] := (by decide +kernel : ∀ t : Fin grid0.N, _)

theorem final : (dats m 0 c).arrAt 2 (cfgs 0).N
    = res (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay3, k0_pay2, k0_pay1, res]
  blk_point [iblk, V, index t]

end Cert.Kernel4Ideal.Product

end
-- ==== Proof.Product5.lean ====
/- The MLP's first projection: what the call writes is the product of the rows and the layer's weights. -/
module
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

variable (m : (ℓ : Loc nD τ sig) → Buf (Elt Ideal) ℓ) (c : Dev nD)

/-- The reference's result. -/
abbrev res (X : FVec Ideal S8320x2048 .bf16) (W : FVec Ideal S2x2048x11264 .bf16) : FVec Ideal S8320x11264 .bf16 :=
  truncf .bf16 (Host.dotGeneral Cert.Reference5Ideal.dot_S8320x2048_S2048x11264_S8320x11264_1_0_0_1_n_n none
    (extf .f32 X Cert.Reference5Ideal.Gen.bitsLt_bf16_f32)
    (extf .f32 (shapeCast Cert.Reference5Ideal.S2048x11264 (extractStridedSlice Cert.Reference5Ideal.S1x2048x11264 ![0, 0, 0] W
      Cert.Reference5Ideal.Gen.slices_S2x2048x11264_S1x2048x11264_0_0_0)
      Cert.Reference5Ideal.Gen.shapeCasts_S1x2048x11264_S2048x11264) Cert.Reference5Ideal.Gen.bitsLt_bf16_f32))
    Cert.Reference5Ideal.Gen.bitsLt_bf16_f32

theorem index : ∀ t : Fin cfg0.N, win0_0.index t = ![t.val / 22, 0] ∧ win0_1.index t = ![0, 0, t.val % 22]
    ∧ win0_2.index t = ![t.val / 22, t.val % 22] := (by decide +kernel : ∀ t : Fin grid0.N, _)

theorem final : (dats m 0 c).arrAt 2 (cfgs 0).N
    = res (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay3, k0_pay2, k0_pay1, res]
  blk_point [iblk, V, index t]

end Cert.Kernel5Ideal.Product

end
-- ==== Proof.Product6.lean ====
/- The gradient of the MLP's rows: what the call writes is the product of its gradient and the layer's weights. -/
module
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen

variable (m : (ℓ : Loc nD τ sig) → Buf (Elt Ideal) ℓ) (c : Dev nD)

/-- The reference's result. -/
abbrev res (X : FVec Ideal S8320x11264 .bf16) (W : FVec Ideal S2x2048x11264 .bf16) : FVec Ideal S8320x2048 .f32 :=
  Host.dotGeneral Cert.Reference6Ideal.dot_S8320x11264_S2048x11264_S8320x2048_1_1_0_0_n_n none
    (extf .f32 X Cert.Reference6Ideal.Gen.bitsLt_bf16_f32)
    (extf .f32 (shapeCast Cert.Reference6Ideal.S2048x11264 (extractStridedSlice Cert.Reference6Ideal.S1x2048x11264 ![0, 0, 0] W
      Cert.Reference6Ideal.Gen.slices_S2x2048x11264_S1x2048x11264_0_0_0)
      Cert.Reference6Ideal.Gen.shapeCasts_S1x2048x11264_S2048x11264) Cert.Reference6Ideal.Gen.bitsLt_bf16_f32)

theorem index : ∀ t : Fin cfg0.N, win0_0.index t = ![t.val / 16, t.val % 8] ∧ win0_1.index t = ![0, t.val / 8 % 2, t.val % 8]
    ∧ win0_2.index t = ![t.val / 16, t.val / 8 % 2] := (by decide +kernel : ∀ t : Fin grid0.N, _)

theorem clear (j) : k0_pay1 (F := Ideal) j = 0 := by pointwise [k0_pay1]

theorem add (acc : FVec Ideal S1664x1024 .f32) (x : FVec Ideal S1664x1408 .bf16) (w : FVec Ideal S1x1024x1408 .bf16) (j) :
    k0_pay2 acc x w j = acc j + ∑ k : Fin 1408, x (ix2 (j 0) k) * w (ix3 0 (j 1) k) := by pointwise [k0_pay2]

/-- A writing point writes the scratch. -/
theorem written (t : Fin cfg0.N) (h : t.val % 8 = 7) (j) :
    (outsAt0 m c t.val t.isLt).1 j = (outsAt0 m c t.val t.isLt).2 j := by
  rw [outsAt0_C m c t (by omega) h]; frame_out

theorem final : (dats m 0 c).arrAt 2 (cfgs 0).N
    = res (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 8 (fun _ => 0) _
      (fun t h j => by rw [outsAt0_A m c t h (by omega)]; frame_out; rw [add, clear])
      (fun t h j => by
        by_cases h1 : t.val % 8 = 7
        · rw [outsAt0_C m c t h h1]; frame_out; rw [read_unread_whole, add]
        · rw [outsAt0_B m c t h h1]; frame_out; rw [read_unread_whole, add])
      t ((flush0_2 t).mp hf) _, zero_add]
  pointwise [res]
  refine Fin.sum_mul_add_congr fun s k hl => ?_
  blk_point [iblk, V, index t, index ⟨_, Pipeline.run_point_lt_of_flush t ((flush0_2 t).mp hf) s⟩]

end Cert.Kernel6Ideal.Product

end
-- ==== Proof.Product7.lean ====
/- The gradient of the MLP's first weights: the call writes the first layer's entry of both buffers and leaves the other. -/
module
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Stack
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ) (c : Dev nD)

/-- The reference's product. -/
abbrev prod (X : FVec Ideal S2048x8320 .bf16) (G : FVec Ideal S8320x11264 .bf16) : FVec Ideal Cert.Reference7Ideal.S2048x11264 .f32 :=
  transpose Cert.Reference7Ideal.S2048x11264 [1, 0]
    (Host.dotGeneral Cert.Reference7Ideal.dot_S8320x11264_S8320x2048_S11264x2048_0_0_1_1_n_n none
      (extf .f32 G Cert.Reference7Ideal.Gen.bitsLt_bf16_f32)
      (extf .f32 (transpose Cert.Reference7Ideal.S8320x2048 [1, 0] X Cert.Reference7Ideal.Gen.transposes_S2048x8320_S8320x2048_1_0)
        Cert.Reference7Ideal.Gen.bitsLt_bf16_f32))
    Cert.Reference7Ideal.Gen.transposes_S11264x2048_S2048x11264_1_0

theorem index : ∀ t : Fin cfg0.N, win0_0.index t = ![0, t.val % 5] ∧ win0_1.index t = ![t.val % 5, t.val / 5]
    ∧ win0_2.index t = ![0, 0, t.val / 5] ∧ win0_3.index t = ![0, 0, t.val / 5] := (by decide +kernel : ∀ t : Fin grid0.N, _)

theorem clear (j) : k0_pay1 (F := Ideal) j = 0 := by pointwise [k0_pay1]

theorem add (acc : FVec Ideal S2048x512 .f32) (x : FVec Ideal S2048x1664 .bf16) (w : FVec Ideal S1664x512 .bf16) (j) :
    k0_pay2 acc x w j = acc j + ∑ k : Fin 1664, x (ix2 (j 0) k) * w (ix2 k (j 1)) := by pointwise [k0_pay2]

/-- The scratch at a writing point is the product's block. -/
theorem total (t : Fin cfg0.N) (h : t.val % 5 = 4) (a : Fin 2048) (b : Fin 512) (e : Fin 2048) (d : Fin 11264)
    (he : e.val = 0 + a.val) (hd : d.val = t.val / 5 * 512 + b.val) :
    (outsAt0 m c t.val t.isLt).2.2 (ix2 a b)
      = prod (m ((c : Thread nD τ).loc main_arg0)) (m ((c : Thread nD τ).loc main_arg1)) (ix2 e d) := by
  rw [Pipeline.eq_sum_fin_of_reset_step_apply_of_flush (fun n h => (outsAt0 m c n h).2.2) 5 (fun _ => 0) _
      (fun t h j => by rw [outsAt0_A m c t h (by omega)]; frame_out; rw [add, clear])
      (fun t h j => by
        by_cases h1 : t.val % 5 = 4
        · rw [outsAt0_C m c t h h1]; frame_out; rw [read_unread_whole, add]
        · rw [outsAt0_B m c t h h1]; frame_out; rw [read_unread_whole, add])
      t h _, zero_add]
  pointwise [prod]
  refine Fin.sum_mul_add_congr fun s k hl => ?_
  refine Eq.trans ?_ (mul_comm (_ : EReal) _)
  blk_point [iblk, V, index t, index ⟨_, Pipeline.run_point_lt_of_flush t h s⟩]

theorem written32 (t : Fin cfg0.N) (h : t.val % 5 = 4) (z : Fin 1) (a : Fin 2048) (b : Fin 512) :
    (outsAt0 m c t.val t.isLt).1 (ix3 z a b) = (outsAt0 m c t.val t.isLt).2.2 (ix2 a b) := by
  rw [outsAt0_C m c t (by omega) h]; frame_out
  pointwise [k0_pay3]

theorem written16 (t : Fin cfg0.N) (h : t.val % 5 = 4) (z : Fin 1) (a : Fin 2048) (b : Fin 512) :
    (outsAt0 m c t.val t.isLt).2.1 (ix3 z a b) = (outsAt0 m c t.val t.isLt).2.2 (ix2 a b) := by
  rw [outsAt0_C m c t (by omega) h]; frame_out
  pointwise [k0_pay4]

/-- What the reference stacks: a new entry of the first layer on the second layer's entry of the buffer. -/
abbrev stacked {φ : FTy} (p : FVec Ideal Cert.Reference7Ideal.S2048x11264 φ) (B : FVec Ideal S2x2048x11264 φ) :
    FVec Ideal S2x2048x11264 φ :=
  concatenate S2x2048x11264 0 [⟨Cert.Reference7Ideal.S1x2048x11264, broadcastInDim Cert.Reference7Ideal.S1x2048x11264 ![1, 2]
      Cert.Reference7Ideal.Gen.bcast_S2048x11264_S1x2048x11264_1_2 p⟩,
    ⟨Cert.Reference7Ideal.S1x2048x11264, broadcastInDim Cert.Reference7Ideal.S1x2048x11264 ![1, 2]
      Cert.Reference7Ideal.Gen.bcast_S2048x11264_S1x2048x11264_1_2
      (shapeCast Cert.Reference7Ideal.S2048x11264 (extractStridedSlice Cert.Reference7Ideal.S1x2048x11264 ![1, 0, 0] B
        Cert.Reference7Ideal.Gen.slices_S2x2048x11264_S1x2048x11264_1_0_0)
        Cert.Reference7Ideal.Gen.shapeCasts_S1x2048x11264_S2048x11264)⟩]
    Cert.Reference7Ideal.Gen.concatenates_S1x2048x11264_S1x2048x11264_S2x2048x11264_d0

variable {φ : FTy} (p : FVec Ideal Cert.Reference7Ideal.S2048x11264 φ) (B : FVec Ideal S2x2048x11264 φ)

theorem stacked_first (i : S2x2048x11264.Idx) (h : (i 0).val = 0) : stacked p B i = p (ix2 (i 1) (i 2)) := by
  pointwise [stacked]
  exact dif_pos (by omega)

theorem stacked_second (i : S2x2048x11264.Idx) (h : ¬(i 0).val = 0) : stacked p B i = B i := by
  pointwise [stacked]
  rw [dif_neg (by omega)]
  blk_ext []

theorem final32 : (dats m 0 c).arrAt 2 (cfgs 0).N
    = stacked (prod (m ((c : Thread nD τ).loc main_arg0)) (m ((c : Thread nD τ).loc main_arg1))) (m ((c : Thread nD τ).loc main_arg2)) := by
  refine (dats m 0 c).arrAt_eq_of_coversWhere_of_agree 2 _ (fun β => β (0 : Fin 3) = 0) (by decide +kernel) (fun t hf y => ?_) (fun j hj => ?_)
  · have h := (flush0_2 t).mp hf
    blk_simp
    rw [after0_2]
    refine Cert.Stack.placed (stacked_first _ _) _ (fun z a b e d he hd => (written32 m c t h z a b).trans (total m c t h a b e d he hd)) y _ ?_ ?_ ?_ <;>
      blk_simp [index t]
  · blk_simp [Pipeline.Window.cell_apply] at hj
    have e : (dats m 0 c).A 2 = m ((c : Thread nD τ).loc main_arg2) := by
      rw [A_eq]
      entry_read
      rfl
    rw [e]
    refine (stacked_second _ _ ((cfg0.win 2).arr.view.emb j) fun h => hj ?_).symm
    have : (j 0).val = 0 := h
    omega

theorem final16 : (dats m 0 c).arrAt 3 (cfgs 0).N
    = stacked (truncf .bf16 (prod (m ((c : Thread nD τ).loc main_arg0)) (m ((c : Thread nD τ).loc main_arg1)))
        Cert.Reference7Ideal.Gen.bitsLt_bf16_f32) (m ((c : Thread nD τ).loc main_arg3)) := by
  refine (dats m 0 c).arrAt_eq_of_coversWhere_of_agree 3 _ (fun β => β (0 : Fin 3) = 0) (by decide +kernel) (fun t hf y => ?_) (fun j hj => ?_)
  · have h := (flush0_3 t).mp hf
    blk_simp
    rw [after0_3]
    refine Cert.Stack.placed (stacked_first _ _) _ (fun z a b e d he hd => (written16 m c t h z a b).trans (total m c t h a b e d he hd)) y _ ?_ ?_ ?_ <;>
      blk_simp [index t]
  · blk_simp [Pipeline.Window.cell_apply] at hj
    have e : (dats m 0 c).A 3 = m ((c : Thread nD τ).loc main_arg3) := by
      rw [A_eq]
      entry_read
      rfl
    rw [e]
    refine (stacked_second _ _ ((cfg0.win 3).arr.view.emb j) fun h => hj ?_).symm
    have : (j 0).val = 0 := h
    omega

end Cert.Kernel7Ideal.Product

end
-- ==== Proof.Product8.lean ====
/- The MLP's second projection and the residual: what the call writes is the sum of the rows and their product. -/
module
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ) (c : Dev nD)

/-- The reference's result. -/
abbrev res (X : FVec Ideal S8320x5632 .bf16) (W : FVec Ideal S2x5632x2048 .bf16) (H : FVec Ideal S8320x2048 .f32) :
    FVec Ideal S8320x2048 .f32 :=
  addf H (Host.dotGeneral Cert.Reference8Ideal.dot_S8320x5632_S5632x2048_S8320x2048_1_0_0_1_n_n none
    (extf .f32 X Cert.Reference8Ideal.Gen.bitsLt_bf16_f32)
    (extf .f32 (shapeCast Cert.Reference8Ideal.S5632x2048 (extractStridedSlice Cert.Reference8Ideal.S1x5632x2048 ![0, 0, 0] W
      Cert.Reference8Ideal.Gen.slices_S2x5632x2048_S1x5632x2048_0_0_0)
      Cert.Reference8Ideal.Gen.shapeCasts_S1x5632x2048_S5632x2048) Cert.Reference8Ideal.Gen.bitsLt_bf16_f32))

theorem index : ∀ t : Fin cfg0.N, win0_0.index t = ![t.val / 16, t.val % 4] ∧ win0_1.index t = ![0, t.val % 4, t.val / 4 % 4]
    ∧ win0_2.index t = ![t.val / 16, t.val / 4 % 4] ∧ win0_3.index t = ![t.val / 16, t.val / 4 % 4] :=
  (by decide +kernel : ∀ t : Fin grid0.N, _)

theorem clear (j) : k0_pay1 (F := Ideal) j = 0 := by pointwise [k0_pay1]

theorem add (acc : FVec Ideal S1664x512 .f32) (x : FVec Ideal S1664x1408 .bf16) (w : FVec Ideal S1x1408x512 .bf16) (j) :
    k0_pay2 acc x w j = acc j + ∑ k : Fin 1408, x (ix2 (j 0) k) * w (ix3 0 k (j 1)) := by pointwise [k0_pay2]

/-- A writing point writes the scratch and the residual. -/
theorem written (t : Fin cfg0.N) (h : t.val % 4 = 3) (j) :
    (outsAt0 m c t.val t.isLt).1 j = (show FVec Ideal S1664x512 .f32 from iblk m c 2 t) j + (outsAt0 m c t.val t.isLt).2 j := by
  rw [outsAt0_C m c t (by omega) h]; frame_out
  pointwise [k0_pay3]
  exact add_comm (_ : EReal) _

theorem final : (dats m 0 c).arrAt 3 (cfgs 0).N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, written m c t ((flush0_3 t).mp hf),
    Pipeline.eq_sum_fin_of_reset_step_apply_of_flush (fun n h => (outsAt0 m c n h).2) 4 (fun _ => 0) _
      (fun t h j => by rw [outsAt0_A m c t h (by omega)]; frame_out; rw [add, clear])
      (fun t h j => by
        by_cases h1 : t.val % 4 = 3
        · rw [outsAt0_C m c t h h1]; frame_out; rw [read_unread_whole, add]
        · rw [outsAt0_B m c t h h1]; frame_out; rw [read_unread_whole, add])
      t ((flush0_3 t).mp hf) _, zero_add]
  pointwise [res]
  refine congrArg₂ (fun a b : EReal => a + b) ?_ (Fin.sum_mul_add_congr fun s k hl => ?_)
  · blk_point [iblk, V, index t]
  · blk_point [iblk, V, index t, index ⟨_, Pipeline.run_point_lt_of_flush t ((flush0_3 t).mp hf) s⟩]

end Cert.Kernel8Ideal.Product

end
-- ==== Proof.Product9.lean ====
/- The gradient of the MLP's activations: what the call writes is the product of its gradient and the layer's weights. -/
module
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ) (c : Dev nD)

/-- The reference's result. -/
abbrev res (X : FVec Ideal S8320x2048 .f32) (W : FVec Ideal S2x5632x2048 .bf16) : FVec Ideal S8320x5632 .bf16 :=
  truncf .bf16 (Host.dotGeneral Cert.Reference9Ideal.dot_S8320x2048_S5632x2048_S8320x5632_1_1_0_0_n_n none X
    (extf .f32 (shapeCast Cert.Reference9Ideal.S5632x2048 (extractStridedSlice Cert.Reference9Ideal.S1x5632x2048 ![0, 0, 0] W
      Cert.Reference9Ideal.Gen.slices_S2x5632x2048_S1x5632x2048_0_0_0)
      Cert.Reference9Ideal.Gen.shapeCasts_S1x5632x2048_S5632x2048) Cert.Reference9Ideal.Gen.bitsLt_bf16_f32))
    Cert.Reference9Ideal.Gen.bitsLt_bf16_f32

theorem index : ∀ t : Fin cfg0.N, win0_0.index t = ![t.val / 11, 0] ∧ win0_1.index t = ![0, t.val % 11, 0]
    ∧ win0_2.index t = ![t.val / 11, t.val % 11] := (by decide +kernel : ∀ t : Fin grid0.N, _)

theorem final : (dats m 0 c).arrAt 2 (cfgs 0).N
    = res (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay3, k0_pay2, k0_pay1, res]
  blk_point [iblk, V, index t]

end Cert.Kernel9Ideal.Product

end
-- ==== Proof.Product10.lean ====
/- The gradient of the MLP's second weights: the call writes the first layer's entry of both buffers and leaves the other. -/
module
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Stack
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ) (c : Dev nD)

/-- The reference's product. -/
abbrev prod (X : FVec Ideal S5632x8320 .bf16) (G : FVec Ideal S8320x2048 .f32) : FVec Ideal Cert.Reference10Ideal.S5632x2048 .f32 :=
  transpose Cert.Reference10Ideal.S5632x2048 [1, 0]
    (Host.dotGeneral Cert.Reference10Ideal.dot_S8320x2048_S8320x5632_S2048x5632_0_0_1_1_n_n none
      G
      (extf .f32 (transpose Cert.Reference10Ideal.S8320x5632 [1, 0] X Cert.Reference10Ideal.Gen.transposes_S5632x8320_S8320x5632_1_0)
        Cert.Reference10Ideal.Gen.bitsLt_bf16_f32))
    Cert.Reference10Ideal.Gen.transposes_S2048x5632_S5632x2048_1_0

theorem index : ∀ t : Fin cfg0.N, win0_0.index t = ![t.val / 20, t.val % 5] ∧ win0_1.index t = ![t.val % 5, t.val / 5 % 4]
    ∧ win0_2.index t = ![0, t.val / 20, t.val / 5 % 4] ∧ win0_3.index t = ![0, t.val / 20, t.val / 5 % 4] := (by decide +kernel : ∀ t : Fin grid0.N, _)

theorem clear (j) : k0_pay1 (F := Ideal) j = 0 := by pointwise [k0_pay1]

theorem add (acc : FVec Ideal S1408x512 .f32) (x : FVec Ideal S1408x1664 .bf16) (w : FVec Ideal S1664x512 .f32) (j) :
    k0_pay2 acc x w j = acc j + ∑ k : Fin 1664, x (ix2 (j 0) k) * w (ix2 k (j 1)) := by pointwise [k0_pay2]

/-- The scratch at a writing point is the product's block. -/
theorem total (t : Fin cfg0.N) (h : t.val % 5 = 4) (a : Fin 1408) (b : Fin 512) (e : Fin 5632) (d : Fin 2048)
    (he : e.val = t.val / 20 * 1408 + a.val) (hd : d.val = t.val / 5 % 4 * 512 + b.val) :
    (outsAt0 m c t.val t.isLt).2.2 (ix2 a b)
      = prod (m ((c : Thread nD τ).loc main_arg0)) (m ((c : Thread nD τ).loc main_arg1)) (ix2 e d) := by
  rw [Pipeline.eq_sum_fin_of_reset_step_apply_of_flush (fun n h => (outsAt0 m c n h).2.2) 5 (fun _ => 0) _
      (fun t h j => by rw [outsAt0_A m c t h (by omega)]; frame_out; rw [add, clear])
      (fun t h j => by
        by_cases h1 : t.val % 5 = 4
        · rw [outsAt0_C m c t h h1]; frame_out; rw [read_unread_whole, add]
        · rw [outsAt0_B m c t h h1]; frame_out; rw [read_unread_whole, add])
      t h _, zero_add]
  pointwise [prod]
  refine Fin.sum_mul_add_congr fun s k hl => ?_
  refine Eq.trans ?_ (mul_comm (_ : EReal) _)
  blk_point [iblk, V, index t, index ⟨_, Pipeline.run_point_lt_of_flush t h s⟩]

theorem written32 (t : Fin cfg0.N) (h : t.val % 5 = 4) (z : Fin 1) (a : Fin 1408) (b : Fin 512) :
    (outsAt0 m c t.val t.isLt).1 (ix3 z a b) = (outsAt0 m c t.val t.isLt).2.2 (ix2 a b) := by
  rw [outsAt0_C m c t (by omega) h]; frame_out
  pointwise [k0_pay3]

theorem written16 (t : Fin cfg0.N) (h : t.val % 5 = 4) (z : Fin 1) (a : Fin 1408) (b : Fin 512) :
    (outsAt0 m c t.val t.isLt).2.1 (ix3 z a b) = (outsAt0 m c t.val t.isLt).2.2 (ix2 a b) := by
  rw [outsAt0_C m c t (by omega) h]; frame_out
  pointwise [k0_pay4]

/-- What the reference stacks: a new entry of the first layer on the second layer's entry of the buffer. -/
abbrev stacked {φ : FTy} (p : FVec Ideal Cert.Reference10Ideal.S5632x2048 φ) (B : FVec Ideal S2x5632x2048 φ) :
    FVec Ideal S2x5632x2048 φ :=
  concatenate S2x5632x2048 0 [⟨Cert.Reference10Ideal.S1x5632x2048, broadcastInDim Cert.Reference10Ideal.S1x5632x2048 ![1, 2]
      Cert.Reference10Ideal.Gen.bcast_S5632x2048_S1x5632x2048_1_2 p⟩,
    ⟨Cert.Reference10Ideal.S1x5632x2048, broadcastInDim Cert.Reference10Ideal.S1x5632x2048 ![1, 2]
      Cert.Reference10Ideal.Gen.bcast_S5632x2048_S1x5632x2048_1_2
      (shapeCast Cert.Reference10Ideal.S5632x2048 (extractStridedSlice Cert.Reference10Ideal.S1x5632x2048 ![1, 0, 0] B
        Cert.Reference10Ideal.Gen.slices_S2x5632x2048_S1x5632x2048_1_0_0)
        Cert.Reference10Ideal.Gen.shapeCasts_S1x5632x2048_S5632x2048)⟩]
    Cert.Reference10Ideal.Gen.concatenates_S1x5632x2048_S1x5632x2048_S2x5632x2048_d0

variable {φ : FTy} (p : FVec Ideal Cert.Reference10Ideal.S5632x2048 φ) (B : FVec Ideal S2x5632x2048 φ)

theorem stacked_first (i : S2x5632x2048.Idx) (h : (i 0).val = 0) : stacked p B i = p (ix2 (i 1) (i 2)) := by
  pointwise [stacked]
  exact dif_pos (by omega)

theorem stacked_second (i : S2x5632x2048.Idx) (h : ¬(i 0).val = 0) : stacked p B i = B i := by
  pointwise [stacked]
  rw [dif_neg (by omega)]
  blk_ext []

theorem final32 : (dats m 0 c).arrAt 2 (cfgs 0).N
    = stacked (prod (m ((c : Thread nD τ).loc main_arg0)) (m ((c : Thread nD τ).loc main_arg1))) (m ((c : Thread nD τ).loc main_arg2)) := by
  refine (dats m 0 c).arrAt_eq_of_coversWhere_of_agree 2 _ (fun β => β (0 : Fin 3) = 0) (by decide +kernel) (fun t hf y => ?_) (fun j hj => ?_)
  · have h := (flush0_2 t).mp hf
    blk_simp
    rw [after0_2]
    refine Cert.Stack.placed (stacked_first _ _) _ (fun z a b e d he hd => (written32 m c t h z a b).trans (total m c t h a b e d he hd)) y _ ?_ ?_ ?_ <;>
      blk_simp [index t]
  · blk_simp [Pipeline.Window.cell_apply] at hj
    have e : (dats m 0 c).A 2 = m ((c : Thread nD τ).loc main_arg2) := by
      rw [A_eq]
      entry_read
      rfl
    rw [e]
    refine (stacked_second _ _ ((cfg0.win 2).arr.view.emb j) fun h => hj ?_).symm
    have : (j 0).val = 0 := h
    omega

theorem final16 : (dats m 0 c).arrAt 3 (cfgs 0).N
    = stacked (truncf .bf16 (prod (m ((c : Thread nD τ).loc main_arg0)) (m ((c : Thread nD τ).loc main_arg1)))
        Cert.Reference10Ideal.Gen.bitsLt_bf16_f32) (m ((c : Thread nD τ).loc main_arg3)) := by
  refine (dats m 0 c).arrAt_eq_of_coversWhere_of_agree 3 _ (fun β => β (0 : Fin 3) = 0) (by decide +kernel) (fun t hf y => ?_) (fun j hj => ?_)
  · have h := (flush0_3 t).mp hf
    blk_simp
    rw [after0_3]
    refine Cert.Stack.placed (stacked_first _ _) _ (fun z a b e d he hd => (written16 m c t h z a b).trans (total m c t h a b e d he hd)) y _ ?_ ?_ ?_ <;>
      blk_simp [index t]
  · blk_simp [Pipeline.Window.cell_apply] at hj
    have e : (dats m 0 c).A 3 = m ((c : Thread nD τ).loc main_arg3) := by
      rw [A_eq]
      entry_read
      rfl
    rw [e]
    refine (stacked_second _ _ ((cfg0.win 3).arr.view.emb j) fun h => hj ?_).symm
    have : (j 0).val = 0 := h
    omega

end Cert.Kernel10Ideal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Pre_finite
public import proofs.«01_k».proof.Proof.Gen.ReferenceIdeal.Run
public import proofs.«01_k».proof.Proof.Ref
public import proofs.«01_k».proof.Proof.Pre
public import proofs.«01_k».proof.Proof.Equal
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import Idealize.ShloMosaic.Adequacy
public import Idealize.ShloMosaic.Init
public import Idealize.ShloMosaic.Lib.Quiescent

@[expose] public section

noncomputable section

namespace Cert.Proof

open Idealize.ShloMosaic Idealize.SL.Sem

/-- The reference declares no semaphore, and its run leaves its arguments unchanged. -/
theorem referenceFrame : Cert.quiescent_ReferenceIdeal := by
  intro m ρ _
  exact (θ_run Cert.ReferenceIdeal.defs _ _).mono
    (fun r h => ⟨fun c => (h c).2.2.2.2, sem_eq_zero_of_no_sems (by decide) r.2⟩) (Cert.ReferenceIdeal.Value.run m ρ)

theorem congr3 {α β γ δ : Type} (f : α → β → γ → δ) {x x' : α} {y y' : β} {z z' : γ} (hx : x = x') (hy : y = y') (hz : z = z') :
    f x y z = f x' y' z' := by
  rw [hx, hy, hz]

/-- The kernel's gradients are the reference's. -/
theorem algebraic : Cert.algebraic_KernelIdeal_ReferenceIdeal_pre_finite := by
  intro m ρ m' ρ' hp hm
  refine ⟨fun c => Cert.ReferenceIdeal.Value.res_main_v98 m' c, fun c => Cert.ReferenceIdeal.Value.res_main_v100 m' c,
    fun c => Cert.ReferenceIdeal.Value.res_main_v102 m' c, fun c => Cert.ReferenceIdeal.Value.res_main_v104 m' c, ?_,
    Cert.ReferenceIdeal.Value.run m' ρ'⟩
  refine (θ_run Cert.KernelIdeal.defs _ _).mono (fun r h c => ?_) (Cert.KernelIdeal.Out.run m ρ)
  obtain ⟨h0, h1, h2, h3, ha⟩ := h c
  obtain ⟨e0, e1, e2⟩ := hm c
  obtain ⟨a, d, g, hA, hC, hD⟩ := Cert.Pre_finite.Read.tables (hp c)
  refine ⟨h0.trans ((Cert.KernelIdeal.Fold.resultQ m c hA hC hD).trans ?_), h1.trans ((Cert.KernelIdeal.Fold.resultK m c hA hC hD).trans ?_),
    h2.trans ((Cert.KernelIdeal.Fold.resultV m c hA hC hD).trans ?_), h3.trans ((Cert.KernelIdeal.Fold.resultC m c hA hC hD).trans ?_), ha⟩
  · exact (congr3 Cert.ReferenceIdeal.Read.outQ e0 e1 e2).symm.trans (Cert.ReferenceIdeal.Read.res_outQ m' c).symm
  · exact (congr3 Cert.ReferenceIdeal.Read.outK e0 e1 e2).symm.trans (Cert.ReferenceIdeal.Read.res_outK m' c).symm
  · exact (congr3 Cert.ReferenceIdeal.Read.outV e0 e1 e2).symm.trans (Cert.ReferenceIdeal.Read.res_outV m' c).symm
  · exact (congr3 Cert.ReferenceIdeal.Read.outC e0 e1 e2).symm.trans (Cert.ReferenceIdeal.Read.res_outC m' c).symm

theorem referenceFrame2 : Cert.quiescent_Reference2Ideal := by
  intro m ρ _
  exact (θ_run Cert.Reference2Ideal.defs _ _).mono
    (fun r h => ⟨fun c => (h c).2, sem_eq_zero_of_no_sems (by decide) r.2⟩) (Cert.Reference2Ideal.Value.run m ρ)

theorem algebraic2 : Cert.algebraic_Kernel2Ideal_Reference2Ideal := by
  intro m ρ m' ρ' _ hm
  refine ⟨fun c => Cert.Kernel2Ideal.Product.res (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)),
    (θ_run Cert.Kernel2Ideal.defs _ _).mono (fun r h c => ?_) (θ_run_and (Cert.Kernel2Ideal.Gen.run_main m ρ) (Cert.Kernel2Ideal.Gen.unchanged m ρ)), Cert.Reference2Ideal.Value.run m' ρ'⟩
  obtain ⟨e0, e1⟩ := hm c
  exact ⟨((h.1 c).1 2).trans ((Cert.Kernel2Ideal.Product.final m c).trans (congrArg₂ Cert.Kernel2Ideal.Product.res e0 e1).symm), h.2 c⟩

theorem referenceFrame3 : Cert.quiescent_Reference3Ideal := by
  intro m ρ _
  exact (θ_run Cert.Reference3Ideal.defs _ _).mono
    (fun r h => ⟨fun c => (h c).2.2, sem_eq_zero_of_no_sems (by decide) r.2⟩) (Cert.Reference3Ideal.Value.run m ρ)

theorem algebraic3 : Cert.algebraic_Kernel3Ideal_Reference3Ideal := by
  intro m ρ m' ρ' _ hm
  refine ⟨fun c => Cert.Kernel3Ideal.Product.stacked (Cert.Kernel3Ideal.Product.prod (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg2)),
    fun c => Cert.Kernel3Ideal.Product.stacked (truncf .bf16 (Cert.Kernel3Ideal.Product.prod (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))) Cert.Reference3Ideal.Gen.bitsLt_bf16_f32) (m' ((c.tc : Thread Cert.Reference3Ideal.nD Cert.Reference3Ideal.τ).loc Cert.Reference3Ideal.main_arg3)),
    (θ_run Cert.Kernel3Ideal.defs _ _).mono (fun r h c => ?_) (θ_run_and (Cert.Kernel3Ideal.Gen.run_main m ρ) (Cert.Kernel3Ideal.Gen.unchanged m ρ)), Cert.Reference3Ideal.Value.run m' ρ'⟩
  obtain ⟨e0, e1, e2, e3⟩ := hm c
  refine ⟨((h.1 c).1 2).trans ((Cert.Kernel3Ideal.Product.final32 m c).trans ?_), ((h.1 c).1 3).trans ((Cert.Kernel3Ideal.Product.final16 m c).trans ?_), h.2 c⟩
  · exact (congr3 (fun a b d => Cert.Kernel3Ideal.Product.stacked (Cert.Kernel3Ideal.Product.prod a b) d) e0 e1 e2).symm
  · exact (congr3 (fun a b d => Cert.Kernel3Ideal.Product.stacked (truncf .bf16 (Cert.Kernel3Ideal.Product.prod a b) Cert.Reference3Ideal.Gen.bitsLt_bf16_f32) d) e0 e1 e3).symm

theorem referenceFrame4 : Cert.quiescent_Reference4Ideal := by
  intro m ρ _
  exact (θ_run Cert.Reference4Ideal.defs _ _).mono
    (fun r h => ⟨fun c => (h c).2, sem_eq_zero_of_no_sems (by decide) r.2⟩) (Cert.Reference4Ideal.Value.run m ρ)

theorem algebraic4 : Cert.algebraic_Kernel4Ideal_Reference4Ideal := by
  intro m ρ m' ρ' _ hm
  refine ⟨fun c => Cert.Kernel4Ideal.Product.res (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)),
    (θ_run Cert.Kernel4Ideal.defs _ _).mono (fun r h c => ?_) (θ_run_and (Cert.Kernel4Ideal.Gen.run_main m ρ) (Cert.Kernel4Ideal.Gen.unchanged m ρ)), Cert.Reference4Ideal.Value.run m' ρ'⟩
  obtain ⟨e0, e1⟩ := hm c
  exact ⟨((h.1 c).1 2).trans ((Cert.Kernel4Ideal.Product.final m c).trans (congrArg₂ Cert.Kernel4Ideal.Product.res e0 e1).symm), h.2 c⟩

theorem referenceFrame5 : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run m ρ)

theorem algebraic5 : Cert.algebraic_Kernel5Ideal_Reference5Ideal := by
  intro m ρ m' ρ' _ hm
  refine ⟨fun c => Cert.Kernel5Ideal.Product.res (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)),
    (θ_run Cert.Kernel5Ideal.defs _ _).mono (fun r h c => ?_) (θ_run_and (Cert.Kernel5Ideal.Gen.run_main m ρ) (Cert.Kernel5Ideal.Gen.unchanged m ρ)), Cert.Reference5Ideal.Value.run m' ρ'⟩
  obtain ⟨e0, e1⟩ := hm c
  exact ⟨((h.1 c).1 2).trans ((Cert.Kernel5Ideal.Product.final m c).trans (congrArg₂ Cert.Kernel5Ideal.Product.res e0 e1).symm), h.2 c⟩

theorem referenceFrame6 : Cert.quiescent_Reference6Ideal := by
  intro m ρ _
  exact (θ_run Cert.Reference6Ideal.defs _ _).mono
    (fun r h => ⟨fun c => (h c).2, sem_eq_zero_of_no_sems (by decide) r.2⟩) (Cert.Reference6Ideal.Value.run m ρ)

theorem algebraic6 : Cert.algebraic_Kernel6Ideal_Reference6Ideal := by
  intro m ρ m' ρ' _ hm
  refine ⟨fun c => Cert.Kernel6Ideal.Product.res (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)),
    (θ_run Cert.Kernel6Ideal.defs _ _).mono (fun r h c => ?_) (θ_run_and (Cert.Kernel6Ideal.Gen.run_main m ρ) (Cert.Kernel6Ideal.Gen.unchanged m ρ)), Cert.Reference6Ideal.Value.run m' ρ'⟩
  obtain ⟨e0, e1⟩ := hm c
  exact ⟨((h.1 c).1 2).trans ((Cert.Kernel6Ideal.Product.final m c).trans (congrArg₂ Cert.Kernel6Ideal.Product.res e0 e1).symm), h.2 c⟩

theorem referenceFrame7 : Cert.quiescent_Reference7Ideal := by
  intro m ρ _
  exact (θ_run Cert.Reference7Ideal.defs _ _).mono
    (fun r h => ⟨fun c => (h c).2.2, sem_eq_zero_of_no_sems (by decide) r.2⟩) (Cert.Reference7Ideal.Value.run m ρ)

theorem algebraic7 : Cert.algebraic_Kernel7Ideal_Reference7Ideal := by
  intro m ρ m' ρ' _ hm
  refine ⟨fun c => Cert.Kernel7Ideal.Product.stacked (Cert.Kernel7Ideal.Product.prod (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))) (m' ((c.tc : Thread Cert.Reference7Ideal.nD Cert.Reference7Ideal.τ).loc Cert.Reference7Ideal.main_arg2)),
    fun c => Cert.Kernel7Ideal.Product.stacked (truncf .bf16 (Cert.Kernel7Ideal.Product.prod (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))) Cert.Reference7Ideal.Gen.bitsLt_bf16_f32) (m' ((c.tc : Thread Cert.Reference7Ideal.nD Cert.Reference7Ideal.τ).loc Cert.Reference7Ideal.main_arg3)),
    (θ_run Cert.Kernel7Ideal.defs _ _).mono (fun r h c => ?_) (θ_run_and (Cert.Kernel7Ideal.Gen.run_main m ρ) (Cert.Kernel7Ideal.Gen.unchanged m ρ)), Cert.Reference7Ideal.Value.run m' ρ'⟩
  obtain ⟨e0, e1, e2, e3⟩ := hm c
  refine ⟨((h.1 c).1 2).trans ((Cert.Kernel7Ideal.Product.final32 m c).trans ?_), ((h.1 c).1 3).trans ((Cert.Kernel7Ideal.Product.final16 m c).trans ?_), h.2 c⟩
  · exact (congr3 (fun a b d => Cert.Kernel7Ideal.Product.stacked (Cert.Kernel7Ideal.Product.prod a b) d) e0 e1 e2).symm
  · exact (congr3 (fun a b d => Cert.Kernel7Ideal.Product.stacked (truncf .bf16 (Cert.Kernel7Ideal.Product.prod a b) Cert.Reference7Ideal.Gen.bitsLt_bf16_f32) d) e0 e1 e3).symm

theorem referenceFrame8 : Cert.quiescent_Reference8Ideal := by
  intro m ρ _
  exact (θ_run Cert.Reference8Ideal.defs _ _).mono
    (fun r h => ⟨fun c => (h c).2, sem_eq_zero_of_no_sems (by decide) r.2⟩) (Cert.Reference8Ideal.Value.run m ρ)

theorem algebraic8 : Cert.algebraic_Kernel8Ideal_Reference8Ideal := by
  intro m ρ m' ρ' _ hm
  refine ⟨fun c => Cert.Kernel8Ideal.Product.res (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1))
      (m' ((c.tc : Thread Cert.Reference8Ideal.nD Cert.Reference8Ideal.τ).loc Cert.Reference8Ideal.main_arg2)),
    (θ_run Cert.Kernel8Ideal.defs _ _).mono (fun r h c => ?_) (θ_run_and (Cert.Kernel8Ideal.Gen.run_main m ρ) (Cert.Kernel8Ideal.Gen.unchanged m ρ)), Cert.Reference8Ideal.Value.run m' ρ'⟩
  obtain ⟨e0, e1, e2⟩ := hm c
  exact ⟨((h.1 c).1 3).trans ((Cert.Kernel8Ideal.Product.final m c).trans (congr3 Cert.Kernel8Ideal.Product.res e0 e1 e2).symm), h.2 c⟩

theorem referenceFrame9 : Cert.quiescent_Reference9Ideal := by
  intro m ρ _
  exact (θ_run Cert.Reference9Ideal.defs _ _).mono
    (fun r h => ⟨fun c => (h c).2, sem_eq_zero_of_no_sems (by decide) r.2⟩) (Cert.Reference9Ideal.Value.run m ρ)

theorem algebraic9 : Cert.algebraic_Kernel9Ideal_Reference9Ideal := by
  intro m ρ m' ρ' _ hm
  refine ⟨fun c => Cert.Kernel9Ideal.Product.res (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1)),
    (θ_run Cert.Kernel9Ideal.defs _ _).mono (fun r h c => ?_) (θ_run_and (Cert.Kernel9Ideal.Gen.run_main m ρ) (Cert.Kernel9Ideal.Gen.unchanged m ρ)), Cert.Reference9Ideal.Value.run m' ρ'⟩
  obtain ⟨e0, e1⟩ := hm c
  exact ⟨((h.1 c).1 2).trans ((Cert.Kernel9Ideal.Product.final m c).trans (congrArg₂ Cert.Kernel9Ideal.Product.res e0 e1).symm), h.2 c⟩

theorem referenceFrame10 : Cert.quiescent_Reference10Ideal := by
  intro m ρ _
  exact (θ_run Cert.Reference10Ideal.defs _ _).mono
    (fun r h => ⟨fun c => (h c).2.2, sem_eq_zero_of_no_sems (by decide) r.2⟩) (Cert.Reference10Ideal.Value.run m ρ)

theorem algebraic10 : Cert.algebraic_Kernel10Ideal_Reference10Ideal := by
  intro m ρ m' ρ' _ hm
  refine ⟨fun c => Cert.Kernel10Ideal.Product.stacked (Cert.Kernel10Ideal.Product.prod (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))) (m' ((c.tc : Thread Cert.Reference10Ideal.nD Cert.Reference10Ideal.τ).loc Cert.Reference10Ideal.main_arg2)),
    fun c => Cert.Kernel10Ideal.Product.stacked (truncf .bf16 (Cert.Kernel10Ideal.Product.prod (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))) Cert.Reference10Ideal.Gen.bitsLt_bf16_f32) (m' ((c.tc : Thread Cert.Reference10Ideal.nD Cert.Reference10Ideal.τ).loc Cert.Reference10Ideal.main_arg3)),
    (θ_run Cert.Kernel10Ideal.defs _ _).mono (fun r h c => ?_) (θ_run_and (Cert.Kernel10Ideal.Gen.run_main m ρ) (Cert.Kernel10Ideal.Gen.unchanged m ρ)), Cert.Reference10Ideal.Value.run m' ρ'⟩
  obtain ⟨e0, e1, e2, e3⟩ := hm c
  refine ⟨((h.1 c).1 2).trans ((Cert.Kernel10Ideal.Product.final32 m c).trans ?_), ((h.1 c).1 3).trans ((Cert.Kernel10Ideal.Product.final16 m c).trans ?_), h.2 c⟩
  · exact (congr3 (fun a b d => Cert.Kernel10Ideal.Product.stacked (Cert.Kernel10Ideal.Product.prod a b) d) e0 e1 e2).symm
  · exact (congr3 (fun a b d => Cert.Kernel10Ideal.Product.stacked (truncf .bf16 (Cert.Kernel10Ideal.Product.prod a b) Cert.Reference10Ideal.Gen.bitsLt_bf16_f32) d) e0 e1 e3).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts,
    fun m g _ => Cert.Kernel.Gen.frame m g,
    fun m g _ => Cert.KernelIdeal.Gen.frame m g,
    fun m g _ => Cert.KernelIdeal.Gen.frame m g,
    fun m g _ => referenceFrame m g trivial,
    fun m g _ => referenceFrame m g trivial,
    fun m g _ => Cert.Kernel2.Gen.frame m g, fun m g _ => Cert.Kernel2Ideal.Gen.frame m g, referenceFrame2,
    fun m g _ => Cert.Kernel3.Gen.frame m g, fun m g _ => Cert.Kernel3Ideal.Gen.frame m g, referenceFrame3,
    fun m g _ => Cert.Kernel4.Gen.frame m g, fun m g _ => Cert.Kernel4Ideal.Gen.frame m g, referenceFrame4,
    fun m g _ => Cert.Kernel5.Gen.frame m g, fun m g _ => Cert.Kernel5Ideal.Gen.frame m g, referenceFrame5,
    fun m g _ => Cert.Kernel6.Gen.frame m g, fun m g _ => Cert.Kernel6Ideal.Gen.frame m g, referenceFrame6,
    fun m g _ => Cert.Kernel7.Gen.frame m g, fun m g _ => Cert.Kernel7Ideal.Gen.frame m g, referenceFrame7,
    fun m g _ => Cert.Kernel8.Gen.frame m g, fun m g _ => Cert.Kernel8Ideal.Gen.frame m g, referenceFrame8,
    fun m g _ => Cert.Kernel9.Gen.frame m g, fun m g _ => Cert.Kernel9Ideal.Gen.frame m g, referenceFrame9,
    fun m g _ => Cert.Kernel10.Gen.frame m g, fun m g _ => Cert.Kernel10Ideal.Gen.frame m g, referenceFrame10,
    ⟨IdealRules.named_const.statement Cert.KernelIdeal.κ "pad" .f32 0x7149F2CA#32 ⊤ rfl,
      IdealRules.named_const.statement Cert.KernelIdeal.κ "mask" .f32 0xF149F2CA#32 ⊥ rfl⟩,
    algebraic,
    trivial, algebraic2,
    trivial, algebraic3,
    trivial, algebraic4,
    trivial, algebraic5,
    trivial, algebraic6,
    trivial, algebraic7,
    trivial, algebraic8,
    trivial, algebraic9,
    trivial, algebraic10⟩

end Cert.Proof

end
